-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  IdealRules.named_const.Statement Cert.KernelIdeal.κ "inv_2b" .f32 0x3D4CCCCD#32 ((1 / 20 : ℝ) : EReal)
  ∧ IdealRules.named_const.Statement Cert.KernelIdeal.κ "ga" .f32 0x3FDFDA13#32 ((2668522016831 / 1525878906250 : ℝ) : EReal)
  ∧ IdealRules.named_const.Statement Cert.KernelIdeal.κ "inv_ln_r" .f32 0x40AF839B#32 (((Real.log (6 / 5))⁻¹ : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v63)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v63) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v169) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S262144x64 : Shape := ⟨2, ![262144, 64]⟩
abbrev S31x64 : Shape := ⟨2, ![31, 64]⟩
abbrev S_ : Shape := ⟨0, ![]⟩
abbrev S1x1 : Shape := ⟨2, ![1, 1]⟩
abbrev S33x1 : Shape := ⟨2, ![33, 1]⟩
abbrev S31x1 : Shape := ⟨2, ![31, 1]⟩
abbrev S32x1 : Shape := ⟨2, ![32, 1]⟩
abbrev S33 : Shape := ⟨1, ![33]⟩
abbrev S32 : Shape := ⟨1, ![32]⟩
abbrev S31 : Shape := ⟨1, ![31]⟩
abbrev S32x64 : Shape := ⟨2, ![32, 64]⟩
abbrev S64 : Shape := ⟨1, ![64]⟩
abbrev S1x64 : Shape := ⟨2, ![1, 64]⟩
abbrev S131072x128 : Shape := ⟨2, ![131072, 128]⟩
abbrev S32x128 : Shape := ⟨2, ![32, 128]⟩
abbrev S4096x128 : Shape := ⟨2, ![4096, 128]⟩
abbrev S8x128 : Shape := ⟨2, ![8, 128]⟩
abbrev S1x8x128 : Shape := ⟨3, ![1, 8, 128]⟩
abbrev S512x8x128 : Shape := ⟨3, ![512, 8, 128]⟩
abbrev S512x8x128x1 : Shape := ⟨4, ![512, 8, 128, 1]⟩

abbrev nBuf : Space → Nat
  | .hbm => 84
  | .vmem => 14
  | .smem => 0
  | _ => 0

abbrev bufTy : (tb : Table) → Fin (tcTables nBuf tb) → BufTy
  | .hbm, ⟨0, _⟩ => ⟨S262144x64, .f32⟩
  | .hbm, ⟨1, _⟩ => ⟨S31x64, .f32⟩
  | .hbm, ⟨2, _⟩ => ⟨S_, .f32⟩
  | .hbm, ⟨3, _⟩ => ⟨S1x1, .f32⟩
  | .hbm, ⟨4, _⟩ => ⟨S_, .f32⟩
  | .hbm, ⟨5, _⟩ => ⟨S1x1, .f32⟩
  | .hbm, ⟨6, _⟩ => ⟨S1x1, .f32⟩
  | .hbm, ⟨7, _⟩ => ⟨S_, .f32⟩
  | .hbm, ⟨8, _⟩ => ⟨S1x1, .f32⟩
  | .hbm, ⟨9, _⟩ => ⟨S1x1, .f32⟩
  | .hbm, ⟨10, _⟩ => ⟨S_, .f32⟩
  | .hbm, ⟨11, _⟩ => ⟨S1x1, .f32⟩
  | .hbm, ⟨12, _⟩ => ⟨S1x1, .f32⟩
  | .hbm, ⟨13, _⟩ => ⟨S_, .f32⟩
  | .hbm, ⟨14, _⟩ => ⟨S1x1, .f32⟩
  | .hbm, ⟨15, _⟩ => ⟨S1x1, .f32⟩
  | .hbm, ⟨16, _⟩ => ⟨S_, .f32⟩
  | .hbm, ⟨17, _⟩ => ⟨S1x1, .f32⟩
  | .hbm, ⟨18, _⟩ => ⟨S1x1, .f32⟩
  | .hbm, ⟨19, _⟩ => ⟨S1x1, .f32⟩
  | .hbm, ⟨20, _⟩ => ⟨S33x1, .i32⟩
  | .hbm, ⟨21, _⟩ => ⟨S33x1, .f32⟩
  | .hbm, ⟨22, _⟩ => ⟨S_, .f32⟩
  | .hbm, ⟨23, _⟩ => ⟨S33x1, .f32⟩
  | .hbm, ⟨24, _⟩ => ⟨S33x1, .f32⟩
  | .hbm, ⟨25, _⟩ => ⟨S33x1, .f32⟩
  | .hbm, ⟨26, _⟩ => ⟨S33x1, .f32⟩
  | .hbm, ⟨27, _⟩ => ⟨S33x1, .f32⟩
  | .hbm, ⟨28, _⟩ => ⟨S_, .f32⟩
  | .hbm, ⟨29, _⟩ => ⟨S33x1, .f32⟩
  | .hbm, ⟨30, _⟩ => ⟨S33x1, .f32⟩
  | .hbm, ⟨31, _⟩ => ⟨S_, .f32⟩
  | .hbm, ⟨32, _⟩ => ⟨S1x1, .f32⟩
  | .hbm, ⟨33, _⟩ => ⟨S1x1, .f32⟩
  | .hbm, ⟨34, _⟩ => ⟨S33x1, .f32⟩
  | .hbm, ⟨35, _⟩ => ⟨S33x1, .f32⟩
  | .hbm, ⟨36, _⟩ => ⟨S_, .f32⟩
  | .hbm, ⟨37, _⟩ => ⟨S33x1, .f32⟩
  | .hbm, ⟨38, _⟩ => ⟨S33x1, .i1⟩
  | .hbm, ⟨39, _⟩ => ⟨S33x1, .f32⟩
  | .hbm, ⟨40, _⟩ => ⟨S33x1, .f32⟩
  | .hbm, ⟨41, _⟩ => ⟨S1x1, .f32⟩
  | .hbm, ⟨42, _⟩ => ⟨S33x1, .f32⟩
  | .hbm, ⟨43, _⟩ => ⟨S33x1, .f32⟩
  | .hbm, ⟨44, _⟩ => ⟨S33x1, .f32⟩
  | .hbm, ⟨45, _⟩ => ⟨S_, .f32⟩
  | .hbm, ⟨46, _⟩ => ⟨S33x1, .f32⟩
  | .hbm, ⟨47, _⟩ => ⟨S33x1, .f32⟩
  | .hbm, ⟨48, _⟩ => ⟨S_, .f32⟩
  | .hbm, ⟨49, _⟩ => ⟨S33x1, .f32⟩
  | .hbm, ⟨50, _⟩ => ⟨S33x1, .f32⟩
  | .hbm, ⟨51, _⟩ => ⟨S_, .f32⟩
  | .hbm, ⟨52, _⟩ => ⟨S33x1, .f32⟩
  | .hbm, ⟨53, _⟩ => ⟨S33x1, .f32⟩
  | .hbm, ⟨54, _⟩ => ⟨S_, .f32⟩
  | .hbm, ⟨55, _⟩ => ⟨S1x1, .f32⟩
  | .hbm, ⟨56, _⟩ => ⟨S31x1, .f32⟩
  | .hbm, ⟨57, _⟩ => ⟨S_, .f32⟩
  | .hbm, ⟨58, _⟩ => ⟨S1x1, .f32⟩
  | .hbm, ⟨59, _⟩ => ⟨S33x1, .f32⟩
  | .hbm, ⟨60, _⟩ => ⟨S32x1, .f32⟩
  | .hbm, ⟨61, _⟩ => ⟨S32x1, .f32⟩
  | .hbm, ⟨62, _⟩ => ⟨S32x1, .f32⟩
  | .hbm, ⟨63, _⟩ => ⟨S33, .f32⟩
  | .hbm, ⟨64, _⟩ => ⟨S32, .f32⟩
  | .hbm, ⟨65, _⟩ => ⟨S31, .f32⟩
  | .hbm, ⟨66, _⟩ => ⟨S31, .f32⟩
  | .hbm, ⟨67, _⟩ => ⟨S31, .f32⟩
  | .hbm, ⟨68, _⟩ => ⟨S_, .f32⟩
  | .hbm, ⟨69, _⟩ => ⟨S31, .f32⟩
  | .hbm, ⟨70, _⟩ => ⟨S31, .f32⟩
  | .hbm, ⟨71, _⟩ => ⟨S31x1, .f32⟩
  | .hbm, ⟨72, _⟩ => ⟨S32x1, .f32⟩
  | .hbm, ⟨73, _⟩ => ⟨S32, .f32⟩
  | .hbm, ⟨74, _⟩ => ⟨S32x1, .f32⟩
  | .hbm, ⟨75, _⟩ => ⟨S32x64, .f32⟩
  | .hbm, ⟨76, _⟩ => ⟨S32x64, .f32⟩
  | .hbm, ⟨77, _⟩ => ⟨S32x64, .f32⟩
  | .hbm, ⟨78, _⟩ => ⟨S131072x128, .f32⟩
  | .hbm, ⟨79, _⟩ => ⟨S32x128, .f32⟩
  | .hbm, ⟨80, _⟩ => ⟨S32x128, .f32⟩
  | .hbm, ⟨81, _⟩ => ⟨S32x128, .f32⟩
  | .hbm, ⟨82, _⟩ => ⟨S131072x128, .f32⟩
  | .hbm, ⟨83, _⟩ => ⟨S262144x64, .f32⟩
  | .local _ .vmem, ⟨0, _⟩ => ⟨S31x64, .f32⟩
  | .local _ .vmem, ⟨1, _⟩ => ⟨S31x1, .f32⟩
  | .local _ .vmem, ⟨2, _⟩ => ⟨S32x1, .f32⟩
  | .local _ .vmem, ⟨3, _⟩ => ⟨S32x1, .f32⟩
  | .local _ .vmem, ⟨4, _⟩ => ⟨S32x64, .f32⟩
  | .local _ .vmem, ⟨5, _⟩ => ⟨S32x64, .f32⟩
  | .local _ .vmem, ⟨6, _⟩ => ⟨S32x64, .f32⟩
  | .local _ .vmem, ⟨7, _⟩ => ⟨S4096x128, .f32⟩
  | .local _ .vmem, ⟨8, _⟩ => ⟨S4096x128, .f32⟩
  | .local _ .vmem, ⟨9, _⟩ => ⟨S32x128, .f32⟩
  | .local _ .vmem, ⟨10, _⟩ => ⟨S32x128, .f32⟩
  | .local _ .vmem, ⟨11, _⟩ => ⟨S32x128, .f32⟩
  | .local _ .vmem, ⟨12, _⟩ => ⟨S4096x128, .f32⟩
  | .local _ .vmem, ⟨13, _⟩ => ⟨S4096x128, .f32⟩
  | _, _ => ⟨S262144x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_cst_1 : Ref sig .tc := ⟨.hbm, 7, rfl⟩
abbrev main_v3 : Ref sig .tc := ⟨.hbm, 8, rfl⟩
abbrev main_v4 : Ref sig .tc := ⟨.hbm, 9, rfl⟩
abbrev main_cst_2 : Ref sig .tc := ⟨.hbm, 10, rfl⟩
abbrev main_v5 : Ref sig .tc := ⟨.hbm, 11, rfl⟩
abbrev main_v6 : Ref sig .tc := ⟨.hbm, 12, rfl⟩
abbrev main_cst_3 : Ref sig .tc := ⟨.hbm, 13, rfl⟩
abbrev main_v7 : Ref sig .tc := ⟨.hbm, 14, rfl⟩
abbrev main_v8 : Ref sig .tc := ⟨.hbm, 15, rfl⟩
abbrev main_cst_4 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_5 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_6 : Ref sig .tc := ⟨.hbm, 28, rfl⟩
abbrev main_v19 : Ref sig .tc := ⟨.hbm, 29, rfl⟩
abbrev main_v20 : Ref sig .tc := ⟨.hbm, 30, rfl⟩
abbrev main_cst_7 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_8 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_9 : Ref sig .tc := ⟨.hbm, 45, rfl⟩
abbrev main_v33 : Ref sig .tc := ⟨.hbm, 46, rfl⟩
abbrev main_v34 : Ref sig .tc := ⟨.hbm, 47, rfl⟩
abbrev main_cst_10 : Ref sig .tc := ⟨.hbm, 48, rfl⟩
abbrev main_v35 : Ref sig .tc := ⟨.hbm, 49, rfl⟩
abbrev main_v36 : Ref sig .tc := ⟨.hbm, 50, rfl⟩
abbrev main_cst_11 : Ref sig .tc := ⟨.hbm, 51, rfl⟩
abbrev main_v37 : Ref sig .tc := ⟨.hbm, 52, rfl⟩
abbrev main_v38 : Ref sig .tc := ⟨.hbm, 53, rfl⟩
abbrev main_cst_12 : Ref sig .tc := ⟨.hbm, 54, rfl⟩
abbrev main_v39 : Ref sig .tc := ⟨.hbm, 55, rfl⟩
abbrev main_v40 : Ref sig .tc := ⟨.hbm, 56, rfl⟩
abbrev main_cst_13 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_cst_14 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57_0 : Ref sig .tc := ⟨.hbm, 75, rfl⟩
abbrev main_v57_1 : Ref sig .tc := ⟨.hbm, 76, rfl⟩
abbrev main_v57_2 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem3_0 : DmaSem sig := 11
abbrev cc1_sem4_0 : DmaSem sig := 12
abbrev cc1_sem4_1 : DmaSem sig := 13

abbrev nD : Nat := 1
abbrev τ : Topo := Topo.v7x

variable {F : FTy → Type} [FloatOps F]

abbrev grid0 : Pipeline.Grid := .none

abbrev stage0_0 : Fin 1 → Memref sig .tc .vmem S31x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S31x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S32x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S32x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S32x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S32x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S32x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4096x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S32x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S32x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S32x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S4096x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]
-- ==== KernelIdeal.lean ====
variable {F : FTy → Type} [FloatOps F] [Named F]
def κ : String → Option EReal := fun
  | "ga" => some ((2668522016831 / 1525878906250 : ℝ) : EReal)
  | "inv_2b" => some ((1 / 20 : ℝ) : EReal)
  | "inv_ln_r" => some (((Real.log (6 / 5))⁻¹ : ℝ) : EReal)
  | _ => none
-- ==== ReferenceIdeal.lean ====
abbrev S262144x64 : Shape := ⟨2, ![262144, 64]⟩
abbrev S31x64 : Shape := ⟨2, ![31, 64]⟩
abbrev S_ : Shape := ⟨0, ![]⟩
abbrev S1x1 : Shape := ⟨2, ![1, 1]⟩
abbrev S33 : Shape := ⟨1, ![33]⟩
abbrev S33x1 : Shape := ⟨2, ![33, 1]⟩
abbrev S31x1 : Shape := ⟨2, ![31, 1]⟩
abbrev S32x1 : Shape := ⟨2, ![32, 1]⟩
abbrev S1x64 : Shape := ⟨2, ![1, 64]⟩
abbrev S1 : Shape := ⟨1, ![1]⟩
abbrev S64 : Shape := ⟨1, ![64]⟩
abbrev S33x64 : Shape := ⟨2, ![33, 64]⟩
abbrev S32x64 : Shape := ⟨2, ![32, 64]⟩
abbrev S1x1x33 : Shape := ⟨3, ![1, 1, 33]⟩
abbrev S262144x64x1 : Shape := ⟨3, ![262144, 64, 1]⟩
abbrev S262144x64x33 : Shape := ⟨3, ![262144, 64, 33]⟩
abbrev S32 : Shape := ⟨1, ![32]⟩

abbrev nBuf : Space → Nat
  | .hbm => 259
  | .vmem => 0
  | .smem => 0
  | _ => 0

abbrev hbmTy0_0 (i : Nat) : BufTy := match i % 128 with
  | 0 => ⟨S262144x64, .f32⟩
  | 1 => ⟨S31x64, .f32⟩
  | 2 => ⟨S_, .f32⟩
  | 3 => ⟨S1x1, .f32⟩
  | 4 => ⟨S_, .f32⟩
  | 5 => ⟨S1x1, .f32⟩
  | 6 => ⟨S1x1, .f32⟩
  | 7 => ⟨S_, .f32⟩
  | 8 => ⟨S1x1, .f32⟩
  | 9 => ⟨S1x1, .f32⟩
  | 10 => ⟨S_, .f32⟩
  | 11 => ⟨S1x1, .f32⟩
  | 12 => ⟨S1x1, .f32⟩
  | 13 => ⟨S_, .f32⟩
  | 14 => ⟨S1x1, .f32⟩
  | 15 => ⟨S1x1, .f32⟩
  | 16 => ⟨S_, .f32⟩
  | 17 => ⟨S1x1, .f32⟩
  | 18 => ⟨S1x1, .f32⟩
  | 19 => ⟨S1x1, .f32⟩
  | 20 => ⟨S33, .i32⟩
  | 21 => ⟨S33, .f32⟩
  | 22 => ⟨S33x1, .f32⟩
  | 23 => ⟨S_, .f32⟩
  | 24 => ⟨S33x1, .f32⟩
  | 25 => ⟨S33x1, .f32⟩
  | 26 => ⟨S33x1, .f32⟩
  | 27 => ⟨S33x1, .f32⟩
  | 28 => ⟨S33x1, .f32⟩
  | 29 => ⟨S_, .f32⟩
  | 30 => ⟨S33x1, .f32⟩
  | 31 => ⟨S33x1, .f32⟩
  | 32 => ⟨S_, .f32⟩
  | 33 => ⟨S1x1, .f32⟩
  | 34 => ⟨S1x1, .f32⟩
  | 35 => ⟨S33x1, .f32⟩
  | 36 => ⟨S33x1, .f32⟩
  | 37 => ⟨S_, .f32⟩
  | 38 => ⟨S33x1, .f32⟩
  | 39 => ⟨S33x1, .i1⟩
  | 40 => ⟨S33x1, .f32⟩
  | 41 => ⟨S33x1, .f32⟩
  | 42 => ⟨S1x1, .f32⟩
  | 43 => ⟨S33x1, .f32⟩
  | 44 => ⟨S33x1, .f32⟩
  | 45 => ⟨S33x1, .f32⟩
  | 46 => ⟨S_, .f32⟩
  | 47 => ⟨S33x1, .f32⟩
  | 48 => ⟨S33x1, .f32⟩
  | 49 => ⟨S_, .f32⟩
  | 50 => ⟨S33x1, .f32⟩
  | 51 => ⟨S33x1, .f32⟩
  | 52 => ⟨S_, .f32⟩
  | 53 => ⟨S33x1, .f32⟩
  | 54 => ⟨S33x1, .f32⟩
  | 55 => ⟨S_, .f32⟩
  | 56 => ⟨S1x1, .f32⟩
  | 57 => ⟨S31x1, .f32⟩
  | 58 => ⟨S_, .f32⟩
  | 59 => ⟨S1x1, .f32⟩
  | 60 => ⟨S33x1, .f32⟩
  | 61 => ⟨S32x1, .f32⟩
  | 62 => ⟨S32x1, .f32⟩
  | 63 => ⟨S32x1, .f32⟩
  | 64 => ⟨S_, .f32⟩
  | 65 => ⟨S1x64, .f32⟩
  | 66 => ⟨S_, .f32⟩
  | 67 => ⟨S1x64, .f32⟩
  | 68 => ⟨S1x64, .f32⟩
  | 69 => ⟨S31x64, .f32⟩
  | 70 => ⟨S31x1, .f32⟩
  | 71 => ⟨S31x1, .f32⟩
  | 72 => ⟨S31x1, .f32⟩
  | 73 => ⟨S31x64, .f32⟩
  | 74 => ⟨S31x64, .f32⟩
  | 75 => ⟨S_, .f32⟩
  | 76 => ⟨S31x64, .f32⟩
  | 77 => ⟨S31x64, .f32⟩
  | 78 => ⟨S1x1, .f32⟩
  | 79 => ⟨S1, .f32⟩
  | 80 => ⟨S1x1, .f32⟩
  | 81 => ⟨S1, .f32⟩
  | 82 => ⟨S1, .f32⟩
  | 83 => ⟨S_, .f32⟩
  | 84 => ⟨S1, .f32⟩
  | 85 => ⟨S1, .f32⟩
  | 86 => ⟨S_, .f32⟩
  | 87 => ⟨S1, .f32⟩
  | 88 => ⟨S1, .f32⟩
  | 89 => ⟨S_, .f32⟩
  | 90 => ⟨S1, .f32⟩
  | 91 => ⟨S1, .f32⟩
  | 92 => ⟨S_, .f32⟩
  | 93 => ⟨S64, .f32⟩
  | 94 => ⟨S1x64, .f32⟩
  | 95 => ⟨S1x1, .f32⟩
  | 96 => ⟨S1x64, .f32⟩
  | 97 => ⟨S1x64, .f32⟩
  | 98 => ⟨S31x64, .f32⟩
  | 99 => ⟨S31x64, .f32⟩
  | 100 => ⟨S33x64, .f32⟩
  | 101 => ⟨S32x64, .f32⟩
  | 102 => ⟨S32x64, .f32⟩
  | 103 => ⟨S32x64, .f32⟩
  | 104 => ⟨S_, .f32⟩
  | 105 => ⟨S32x64, .f32⟩
  | 106 => ⟨S32x64, .f32⟩
  | 107 => ⟨S32x64, .f32⟩
  | 108 => ⟨S32x64, .f32⟩
  | 109 => ⟨S_, .f32⟩
  | 110 => ⟨S1x64, .f32⟩
  | 111 => ⟨S_, .f32⟩
  | 112 => ⟨S_, .f32⟩
  | 113 => ⟨S32x64, .f32⟩
  | 114 => ⟨S31x64, .f32⟩
  | 115 => ⟨S32x64, .f32⟩
  | 116 => ⟨S_, .f32⟩
  | 117 => ⟨S262144x64, .f32⟩
  | 118 => ⟨S262144x64, .f32⟩
  | 119 => ⟨S_, .f32⟩
  | 120 => ⟨S262144x64, .f32⟩
  | 121 => ⟨S262144x64, .f32⟩
  | 122 => ⟨S_, .f32⟩
  | 123 => ⟨S262144x64, .f32⟩
  | 124 => ⟨S262144x64, .f32⟩
  | 125 => ⟨S33, .f32⟩
  | 126 => ⟨S1x1x33, .f32⟩
  | 127 => ⟨S262144x64x1, .f32⟩
  | _ => ⟨S262144x64, .f32⟩

abbrev hbmTy0_1 (i : Nat) : BufTy := match i % 128 with
  | 0 => ⟨S262144x64x33, .f32⟩
  | 1 => ⟨S262144x64x33, .f32⟩
  | 2 => ⟨S262144x64x33, .i1⟩
  | 3 => ⟨S262144x64x33, .i32⟩
  | 4 => ⟨S_, .i32⟩
  | 5 => ⟨S262144x64, .i32⟩
  | 6 => ⟨S_, .i32⟩
  | 7 => ⟨S262144x64, .i32⟩
  | 8 => ⟨S262144x64, .i32⟩
  | 9 => ⟨S_, .i32⟩
  | 10 => ⟨S262144x64, .i32⟩
  | 11 => ⟨S262144x64, .i32⟩
  | 12 => ⟨S_, .i32⟩
  | 13 => ⟨S262144x64, .i32⟩
  | 14 => ⟨S262144x64, .i32⟩
  | 15 => ⟨S262144x64, .i32⟩
  | 16 => ⟨S_, .i32⟩
  | 17 => ⟨S262144x64, .i32⟩
  | 18 => ⟨S262144x64, .i1⟩
  | 19 => ⟨S_, .f32⟩
  | 20 => ⟨S_, .f32⟩
  | 21 => ⟨S262144x64, .f32⟩
  | 22 => ⟨S262144x64, .f32⟩
  | 23 => ⟨S262144x64, .f32⟩
  | 24 => ⟨S_, .i32⟩
  | 25 => ⟨S_, .i32⟩
  | 26 => ⟨S_, .i32⟩
  | 27 => ⟨S262144x64, .i32⟩
  | 28 => ⟨S262144x64, .i32⟩
  | 29 => ⟨S_, .i32⟩
  | 30 => ⟨S262144x64, .i32⟩
  | 31 => ⟨S262144x64, .i32⟩
  | 32 => ⟨S_, .i32⟩
  | 33 => ⟨S262144x64, .i32⟩
  | 34 => ⟨S262144x64, .i1⟩
  | 35 => ⟨S_, .i32⟩
  | 36 => ⟨S262144x64, .i32⟩
  | 37 => ⟨S262144x64, .i32⟩
  | 38 => ⟨S262144x64, .i32⟩
  | 39 => ⟨S262144x64x1, .i32⟩
  | 40 => ⟨S262144x64, .f32⟩
  | 41 => ⟨S_, .i32⟩
  | 42 => ⟨S262144x64, .i32⟩
  | 43 => ⟨S262144x64, .i32⟩
  | 44 => ⟨S_, .i32⟩
  | 45 => ⟨S262144x64, .i32⟩
  | 46 => ⟨S262144x64, .i1⟩
  | 47 => ⟨S_, .i32⟩
  | 48 => ⟨S262144x64, .i32⟩
  | 49 => ⟨S262144x64, .i32⟩
  | 50 => ⟨S262144x64, .i32⟩
  | 51 => ⟨S262144x64x1, .i32⟩
  | 52 => ⟨S262144x64, .f32⟩
  | 53 => ⟨S_, .i32⟩
  | 54 => ⟨S262144x64, .i32⟩
  | 55 => ⟨S262144x64, .i1⟩
  | 56 => ⟨S_, .i32⟩
  | 57 => ⟨S262144x64, .i32⟩
  | 58 => ⟨S262144x64, .i32⟩
  | 59 => ⟨S262144x64, .i32⟩
  | 60 => ⟨S262144x64x1, .i32⟩
  | 61 => ⟨S262144x64, .f32⟩
  | 62 => ⟨S262144x64, .f32⟩
  | 63 => ⟨S32, .f32⟩
  | 64 => ⟨S_, .i32⟩
  | 65 => ⟨S262144x64, .i32⟩
  | 66 => ⟨S262144x64, .i1⟩
  | 67 => ⟨S_, .i32⟩
  | 68 => ⟨S262144x64, .i32⟩
  | 69 => ⟨S262144x64, .i32⟩
  | 70 => ⟨S262144x64, .i32⟩
  | 71 => ⟨S262144x64x1, .i32⟩
  | 72 => ⟨S262144x64, .f32⟩
  | 73 => ⟨S_, .i32⟩
  | 74 => ⟨S262144x64, .i32⟩
  | 75 => ⟨S262144x64, .i1⟩
  | 76 => ⟨S_, .i32⟩
  | 77 => ⟨S262144x64, .i32⟩
  | 78 => ⟨S262144x64, .i32⟩
  | 79 => ⟨S262144x64, .i32⟩
  | 80 => ⟨S262144x64x1, .i32⟩
  | 81 => ⟨S262144x64, .f32⟩
  | 82 => ⟨S_, .f32⟩
  | 83 => ⟨S262144x64, .f32⟩
  | 84 => ⟨S262144x64, .i1⟩
  | 85 => ⟨S262144x64, .f32⟩
  | 86 => ⟨S_, .f32⟩
  | 87 => ⟨S262144x64, .f32⟩
  | 88 => ⟨S262144x64, .f32⟩
  | 89 => ⟨S262144x64, .f32⟩
  | 90 => ⟨S262144x64, .f32⟩
  | 91 => ⟨S262144x64, .f32⟩
  | 92 => ⟨S262144x64, .f32⟩
  | 93 => ⟨S262144x64, .f32⟩
  | 94 => ⟨S262144x64, .f32⟩
  | 95 => ⟨S262144x64, .f32⟩
  | 96 => ⟨S_, .f32⟩
  | 97 => ⟨S262144x64, .f32⟩
  | 98 => ⟨S262144x64, .f32⟩
  | 99 => ⟨S_, .f32⟩
  | 100 => ⟨S262144x64, .f32⟩
  | 101 => ⟨S262144x64, .f32⟩
  | 102 => ⟨S_, .f32⟩
  | 103 => ⟨S262144x64, .f32⟩
  | 104 => ⟨S262144x64, .f32⟩
  | 105 => ⟨S_, .f32⟩
  | 106 => ⟨S262144x64, .f32⟩
  | 107 => ⟨S262144x64, .i1⟩
  | 108 => ⟨S_, .f32⟩
  | 109 => ⟨S262144x64, .f32⟩
  | 110 => ⟨S262144x64, .f32⟩
  | 111 => ⟨S_, .f32⟩
  | 112 => ⟨S262144x64, .f32⟩
  | 113 => ⟨S262144x64, .f32⟩
  | 114 => ⟨S_, .f32⟩
  | 115 => ⟨S262144x64, .f32⟩
  | 116 => ⟨S262144x64, .f32⟩
  | 117 => ⟨S262144x64, .f32⟩
  | 118 => ⟨S_, .f32⟩
  | 119 => ⟨S262144x64, .f32⟩
  | 120 => ⟨S262144x64, .i1⟩
  | 121 => ⟨S_, .f32⟩
  | 122 => ⟨S262144x64, .f32⟩
  | 123 => ⟨S262144x64, .f32⟩
  | 124 => ⟨S_, .f32⟩
  | 125 => ⟨S262144x64, .f32⟩
  | 126 => ⟨S262144x64, .f32⟩
  | 127 => ⟨S_, .f32⟩
  | _ => ⟨S262144x64, .f32⟩

abbrev hbmTy0_2 (i : Nat) : BufTy := match i % 128 with
  | 0 => ⟨S262144x64, .f32⟩
  | 1 => ⟨S262144x64, .f32⟩
  | 2 => ⟨S262144x64, .f32⟩
  | _ => ⟨S262144x64, .f32⟩

abbrev hbmTy (i : Nat) : BufTy := match i / 128 with
  | 0 => hbmTy0_0 i
  | 1 => hbmTy0_1 i
  | 2 => hbmTy0_2 i
  | _ => ⟨S262144x64, .f32⟩

abbrev bufTy : (tb : Table) → Fin (tcTables nBuf tb) → BufTy
  | .hbm, ⟨i, _⟩ => hbmTy i
  | _, _ => ⟨S262144x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_cst_1 : Ref sig .tc := ⟨.hbm, 7, rfl⟩
abbrev main_v3 : Ref sig .tc := ⟨.hbm, 8, rfl⟩
abbrev main_v4 : Ref sig .tc := ⟨.hbm, 9, rfl⟩
abbrev main_cst_2 : Ref sig .tc := ⟨.hbm, 10, rfl⟩
abbrev main_v5 : Ref sig .tc := ⟨.hbm, 11, rfl⟩
abbrev main_v6 : Ref sig .tc := ⟨.hbm, 12, rfl⟩
abbrev main_cst_3 : Ref sig .tc := ⟨.hbm, 13, rfl⟩
abbrev main_v7 : Ref sig .tc := ⟨.hbm, 14, rfl⟩
abbrev main_v8 : Ref sig .tc := ⟨.hbm, 15, rfl⟩
abbrev main_cst_4 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_5 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_6 : Ref sig .tc := ⟨.hbm, 29, rfl⟩
abbrev main_v20 : Ref sig .tc := ⟨.hbm, 30, rfl⟩
abbrev main_v21 : Ref sig .tc := ⟨.hbm, 31, rfl⟩
abbrev main_cst_7 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_8 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_9 : Ref sig .tc := ⟨.hbm, 46, rfl⟩
abbrev main_v34 : Ref sig .tc := ⟨.hbm, 47, rfl⟩
abbrev main_v35 : Ref sig .tc := ⟨.hbm, 48, rfl⟩
abbrev main_cst_10 : Ref sig .tc := ⟨.hbm, 49, rfl⟩
abbrev main_v36 : Ref sig .tc := ⟨.hbm, 50, rfl⟩
abbrev main_v37 : Ref sig .tc := ⟨.hbm, 51, rfl⟩
abbrev main_cst_11 : Ref sig .tc := ⟨.hbm, 52, rfl⟩
abbrev main_v38 : Ref sig .tc := ⟨.hbm, 53, rfl⟩
abbrev main_v39 : Ref sig .tc := ⟨.hbm, 54, rfl⟩
abbrev main_cst_12 : Ref sig .tc := ⟨.hbm, 55, rfl⟩
abbrev main_v40 : Ref sig .tc := ⟨.hbm, 56, rfl⟩
abbrev main_v41 : Ref sig .tc := ⟨.hbm, 57, rfl⟩
abbrev main_cst_13 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_cst_14 : Ref sig .tc := ⟨.hbm, 64, rfl⟩
abbrev main_v47 : Ref sig .tc := ⟨.hbm, 65, rfl⟩
abbrev main_cst_15 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_cst_16 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_cst_17 : Ref sig .tc := ⟨.hbm, 83, rfl⟩
abbrev main_v63 : Ref sig .tc := ⟨.hbm, 84, rfl⟩
abbrev main_v64 : Ref sig .tc := ⟨.hbm, 85, rfl⟩
abbrev main_cst_18 : Ref sig .tc := ⟨.hbm, 86, rfl⟩
abbrev main_v65 : Ref sig .tc := ⟨.hbm, 87, rfl⟩
abbrev main_v66 : Ref sig .tc := ⟨.hbm, 88, rfl⟩
abbrev main_cst_19 : Ref sig .tc := ⟨.hbm, 89, rfl⟩
abbrev main_v67 : Ref sig .tc := ⟨.hbm, 90, rfl⟩
abbrev main_v68 : Ref sig .tc := ⟨.hbm, 91, rfl⟩
abbrev main_cst_20 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_cst_21 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_cst_22 : Ref sig .tc := ⟨.hbm, 109, rfl⟩
abbrev main_v84 : Ref sig .tc := ⟨.hbm, 110, rfl⟩
abbrev main_call1_call0_cst : Ref sig .tc := ⟨.hbm, 111, rfl⟩
abbrev main_call1_call0_v0 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_cst_23 : Ref sig .tc := ⟨.hbm, 116, rfl⟩
abbrev main_v88 : Ref sig .tc := ⟨.hbm, 117, rfl⟩
abbrev main_v89 : Ref sig .tc := ⟨.hbm, 118, rfl⟩
abbrev main_cst_24 : Ref sig .tc := ⟨.hbm, 119, rfl⟩
abbrev main_v90 : Ref sig .tc := ⟨.hbm, 120, rfl⟩
abbrev main_v91 : Ref sig .tc := ⟨.hbm, 121, rfl⟩
abbrev main_cst_25 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_c : Ref sig .tc := ⟨.hbm, 132, rfl⟩
abbrev main_v101 : Ref sig .tc := ⟨.hbm, 133, rfl⟩
abbrev main_c_26 : Ref sig .tc := ⟨.hbm, 134, rfl⟩
abbrev main_v102 : Ref sig .tc := ⟨.hbm, 135, rfl⟩
abbrev main_v103 : Ref sig .tc := ⟨.hbm, 136, rfl⟩
abbrev main_c_27 : Ref sig .tc := ⟨.hbm, 137, rfl⟩
abbrev main_v104 : Ref sig .tc := ⟨.hbm, 138, rfl⟩
abbrev main_v105 : Ref sig .tc := ⟨.hbm, 139, rfl⟩
abbrev main_c_28 : Ref sig .tc := ⟨.hbm, 140, rfl⟩
abbrev main_v106 : Ref sig .tc := ⟨.hbm, 141, rfl⟩
abbrev main_v107 : Ref sig .tc := ⟨.hbm, 142, rfl⟩
abbrev main_v108 : Ref sig .tc := ⟨.hbm, 143, rfl⟩
abbrev main_c_29 : Ref sig .tc := ⟨.hbm, 144, rfl⟩
abbrev main_v109 : Ref sig .tc := ⟨.hbm, 145, rfl⟩
abbrev main_v110 : Ref sig .tc := ⟨.hbm, 146, rfl⟩
abbrev main_cst_30 : Ref sig .tc := ⟨.hbm, 147, rfl⟩
abbrev main_cst_31 : Ref sig .tc := ⟨.hbm, 148, rfl⟩
abbrev main_call2_v0 : Ref sig .tc := ⟨.hbm, 149, rfl⟩
abbrev main_call2_v1 : Ref sig .tc := ⟨.hbm, 150, rfl⟩
abbrev main_v111 : Ref sig .tc := ⟨.hbm, 151, rfl⟩
abbrev main_c_32 : Ref sig .tc := ⟨.hbm, 152, rfl⟩
abbrev main_c_33 : Ref sig .tc := ⟨.hbm, 153, rfl⟩
abbrev main_call3_v0 : Ref sig .tc := ⟨.hbm, 154, rfl⟩
abbrev main_call3_v1 : Ref sig .tc := ⟨.hbm, 155, rfl⟩
abbrev main_call3_v2 : Ref sig .tc := ⟨.hbm, 156, rfl⟩
abbrev main_call3_v3 : Ref sig .tc := ⟨.hbm, 157, rfl⟩
abbrev main_call3_v4 : Ref sig .tc := ⟨.hbm, 158, rfl⟩
abbrev main_v112 : Ref sig .tc := ⟨.hbm, 159, rfl⟩
abbrev main_call4_c : Ref sig .tc := ⟨.hbm, 160, rfl⟩
abbrev main_call4_v0 : Ref sig .tc := ⟨.hbm, 161, rfl⟩
abbrev main_call4_v1 : Ref sig .tc := ⟨.hbm, 162, rfl⟩
abbrev main_call4_c_0 : Ref sig .tc := ⟨.hbm, 163, rfl⟩
abbrev main_call4_v2 : Ref sig .tc := ⟨.hbm, 164, rfl⟩
abbrev main_call4_v3 : Ref sig .tc := ⟨.hbm, 165, rfl⟩
abbrev main_call4_v4 : Ref sig .tc := ⟨.hbm, 166, rfl⟩
abbrev main_call4_v5 : Ref sig .tc := ⟨.hbm, 167, rfl⟩
abbrev main_v113 : Ref sig .tc := ⟨.hbm, 168, rfl⟩
abbrev main_c_34 : Ref sig .tc := ⟨.hbm, 169, rfl⟩
abbrev main_v114 : Ref sig .tc := ⟨.hbm, 170, rfl⟩
abbrev main_v115 : Ref sig .tc := ⟨.hbm, 171, rfl⟩
abbrev main_call5_c : Ref sig .tc := ⟨.hbm, 172, rfl⟩
abbrev main_call5_v0 : Ref sig .tc := ⟨.hbm, 173, rfl⟩
abbrev main_call5_v1 : Ref sig .tc := ⟨.hbm, 174, rfl⟩
abbrev main_call5_c_0 : Ref sig .tc := ⟨.hbm, 175, rfl⟩
abbrev main_call5_v2 : Ref sig .tc := ⟨.hbm, 176, rfl⟩
abbrev main_call5_v3 : Ref sig .tc := ⟨.hbm, 177, rfl⟩
abbrev main_call5_v4 : Ref sig .tc := ⟨.hbm, 178, rfl⟩
abbrev main_call5_v5 : Ref sig .tc := ⟨.hbm, 179, rfl⟩
abbrev main_v116 : Ref sig .tc := ⟨.hbm, 180, rfl⟩
abbrev main_c_35 : Ref sig .tc := ⟨.hbm, 181, rfl⟩
abbrev main_v117 : Ref sig .tc := ⟨.hbm, 182, rfl⟩
abbrev main_v118 : Ref sig .tc := ⟨.hbm, 183, rfl⟩
abbrev main_c_36 : Ref sig .tc := ⟨.hbm, 184, rfl⟩
abbrev main_v119 : Ref sig .tc := ⟨.hbm, 185, rfl⟩
abbrev main_v120 : Ref sig .tc := ⟨.hbm, 186, rfl⟩
abbrev main_v121 : Ref sig .tc := ⟨.hbm, 187, rfl⟩
abbrev main_v122 : Ref sig .tc := ⟨.hbm, 188, rfl⟩
abbrev main_v123 : Ref sig .tc := ⟨.hbm, 189, rfl⟩
abbrev main_v124 : Ref sig .tc := ⟨.hbm, 190, rfl⟩
abbrev main_v125 : Ref sig .tc := ⟨.hbm, 191, rfl⟩
abbrev main_c_37 : Ref sig .tc := ⟨.hbm, 192, rfl⟩
abbrev main_v126 : Ref sig .tc := ⟨.hbm, 193, rfl⟩
abbrev main_v127 : Ref sig .tc := ⟨.hbm, 194, rfl⟩
abbrev main_c_38 : Ref sig .tc := ⟨.hbm, 195, rfl⟩
abbrev main_v128 : Ref sig .tc := ⟨.hbm, 196, rfl⟩
abbrev main_v129 : Ref sig .tc := ⟨.hbm, 197, rfl⟩
abbrev main_v130 : Ref sig .tc := ⟨.hbm, 198, rfl⟩
abbrev main_v131 : Ref sig .tc := ⟨.hbm, 199, rfl⟩
abbrev main_v132 : Ref sig .tc := ⟨.hbm, 200, rfl⟩
abbrev main_call6_c : Ref sig .tc := ⟨.hbm, 201, rfl⟩
abbrev main_call6_v0 : Ref sig .tc := ⟨.hbm, 202, rfl⟩
abbrev main_call6_v1 : Ref sig .tc := ⟨.hbm, 203, rfl⟩
abbrev main_call6_c_0 : Ref sig .tc := ⟨.hbm, 204, rfl⟩
abbrev main_call6_v2 : Ref sig .tc := ⟨.hbm, 205, rfl⟩
abbrev main_call6_v3 : Ref sig .tc := ⟨.hbm, 206, rfl⟩
abbrev main_call6_v4 : Ref sig .tc := ⟨.hbm, 207, rfl⟩
abbrev main_call6_v5 : Ref sig .tc := ⟨.hbm, 208, rfl⟩
abbrev main_v133 : Ref sig .tc := ⟨.hbm, 209, rfl⟩
abbrev main_cst_39 : Ref sig .tc := ⟨.hbm, 210, rfl⟩
abbrev main_v134 : Ref sig .tc := ⟨.hbm, 211, rfl⟩
abbrev main_v135 : Ref sig .tc := ⟨.hbm, 212, rfl⟩
abbrev main_v136 : Ref sig .tc := ⟨.hbm, 213, rfl⟩
abbrev main_cst_40 : Ref sig .tc := ⟨.hbm, 214, rfl⟩
abbrev main_v137 : Ref sig .tc := ⟨.hbm, 215, rfl⟩
abbrev main_v138 : Ref sig .tc := ⟨.hbm, 216, rfl⟩
abbrev main_v139 : Ref sig .tc := ⟨.hbm, 217, rfl⟩
abbrev main_v140 : Ref sig .tc := ⟨.hbm, 218, rfl⟩
abbrev main_v141 : Ref sig .tc := ⟨.hbm, 219, rfl⟩
abbrev main_v142 : Ref sig .tc := ⟨.hbm, 220, rfl⟩
abbrev main_v143 : Ref sig .tc := ⟨.hbm, 221, rfl⟩
abbrev main_v144 : Ref sig .tc := ⟨.hbm, 222, rfl⟩
abbrev main_v145 : Ref sig .tc := ⟨.hbm, 223, rfl⟩
abbrev main_cst_41 : Ref sig .tc := ⟨.hbm, 224, rfl⟩
abbrev main_v146 : Ref sig .tc := ⟨.hbm, 225, rfl⟩
abbrev main_v147 : Ref sig .tc := ⟨.hbm, 226, rfl⟩
abbrev main_cst_42 : Ref sig .tc := ⟨.hbm, 227, rfl⟩
abbrev main_v148 : Ref sig .tc := ⟨.hbm, 228, rfl⟩
abbrev main_v149 : Ref sig .tc := ⟨.hbm, 229, rfl⟩
abbrev main_cst_43 : Ref sig .tc := ⟨.hbm, 230, rfl⟩
abbrev main_v150 : Ref sig .tc := ⟨.hbm, 231, rfl⟩
abbrev main_v151 : Ref sig .tc := ⟨.hbm, 232, rfl⟩
abbrev main_cst_44 : Ref sig .tc := ⟨.hbm, 233, rfl⟩
abbrev main_v152 : Ref sig .tc := ⟨.hbm, 234, rfl⟩
abbrev main_v153 : Ref sig .tc := ⟨.hbm, 235, rfl⟩
abbrev main_cst_45 : Ref sig .tc := ⟨.hbm, 236, rfl⟩
abbrev main_v154 : Ref sig .tc := ⟨.hbm, 237, rfl⟩
abbrev main_v155 : Ref sig .tc := ⟨.hbm, 238, rfl⟩
abbrev main_cst_46 : Ref sig .tc := ⟨.hbm, 239, rfl⟩
abbrev main_v156 : Ref sig .tc := ⟨.hbm, 240, rfl⟩
abbrev main_v157 : Ref sig .tc := ⟨.hbm, 241, rfl⟩
abbrev main_cst_47 : Ref sig .tc := ⟨.hbm, 242, rfl⟩
abbrev main_v158 : Ref sig .tc := ⟨.hbm, 243, rfl⟩
abbrev main_v159 : Ref sig .tc := ⟨.hbm, 244, rfl⟩
abbrev main_v160 : Ref sig .tc := ⟨.hbm, 245, rfl⟩
abbrev main_cst_48 : Ref sig .tc := ⟨.hbm, 246, rfl⟩
abbrev main_v161 : Ref sig .tc := ⟨.hbm, 247, rfl⟩
abbrev main_v162 : Ref sig .tc := ⟨.hbm, 248, rfl⟩
abbrev main_cst_49 : Ref sig .tc := ⟨.hbm, 249, rfl⟩
abbrev main_v163 : Ref sig .tc := ⟨.hbm, 250, rfl⟩
abbrev main_v164 : Ref sig .tc := ⟨.hbm, 251, rfl⟩
abbrev main_cst_50 : Ref sig .tc := ⟨.hbm, 252, rfl⟩
abbrev main_v165 : Ref sig .tc := ⟨.hbm, 253, rfl⟩
abbrev main_v166 : Ref sig .tc := ⟨.hbm, 254, rfl⟩
abbrev main_cst_51 : Ref sig .tc := ⟨.hbm, 255, rfl⟩
abbrev main_v167 : Ref sig .tc := ⟨.hbm, 256, rfl⟩
abbrev main_v168 : Ref sig .tc := ⟨.hbm, 257, rfl⟩
abbrev main_v169 : Ref sig .tc := ⟨.hbm, 258, rfl⟩

abbrev nD : Nat := 1
abbrev τ : Topo := Topo.v7x

variable {F : FTy → Type} [FloatOps F]
-- ==== Proof.KernelRun.lean ====
/- The idealized kernel's run with its result: the launch of the generated frame, whose last state is read at the result
   buffer as well as at the arguments. -/
module

public import proofs.«01_k».proof.Proof.Gen.KernelIdeal.Frame

@[expose] public section

set_option maxRecDepth 16384

noncomputable section

namespace Cert.KernelIdeal.KValue

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every execution ends, the result buffer at the last of the folded contents, the arguments as launched. -/
theorem run : θ_run defs (onTc (τ := τ) (main (F := F))) ⟨m, fun _ => 0, ρ⟩ (fun r => (∀ c : Dev nD,
      r.2.mem ((c.tc : Thread nD τ).loc main_v63) = W7 m ρ c (Proc.devRef .tc main_v63)
      ∧ r.2.mem ((c.tc : Thread nD τ).loc main_arg0) = m ((c.tc : Thread nD τ).loc main_arg0)
      ∧ r.2.mem ((c.tc : Thread nD τ).loc main_arg1) = m ((c.tc : Thread nD τ).loc main_arg1))) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h hz => fun c =>
      ⟨(h c _ (mem_uc main_v63 (by decide))),
       (h c _ (mem_uc main_arg0 (by decide))).trans (W7_main_arg0 m ρ c),
       (h c _ (mem_uc main_arg1 (by decide))).trans (W7_main_arg1 m ρ c)⟩)

end Cert.KernelIdeal.KValue

end
-- ==== Proof.Mesh.lean ====
/- The geometric mesh over the reals: its knots, the cell that the logarithm finds, and the piecewise quadratic map, whose
   pieces agree at the knots that they share. -/
module

public import Mathlib.Analysis.SpecialFunctions.Log.Basic
public import Mathlib.Algebra.Order.Floor.Ring
public import Mathlib.Data.Nat.Find
public import Mathlib.Tactic.Linarith
public import Mathlib.Tactic.FieldSimp
public import Mathlib.Tactic.NormNum
public import Mathlib.Tactic.Ring
public import Mathlib.Tactic.GCongr

@[expose] public section

noncomputable section

namespace Cert.QMap

/-- The inverse of the step scale: the outermost knots lie at a distance of ten. -/
def ga : ℝ := ((6 / 5 : ℝ) ^ 16 - 1) / 10

theorem ga_pos : 0 < ga := by norm_num [ga]

/-- The distance from the centre of the `n`-th knot outwards. -/
def dist (n : ℕ) : ℝ := ((6 / 5 : ℝ) ^ n - 1) / ga

theorem dist_zero : dist 0 = 0 := by simp [dist]

theorem dist_sixteen : dist 16 = 10 := by
  norm_num [dist, ga]

theorem dist_lt {a b : ℕ} (h : a < b) : dist a < dist b := by
  unfold dist
  have := pow_lt_pow_right₀ (by norm_num : (1 : ℝ) < 6 / 5) h
  have hg := ga_pos
  gcongr

theorem dist_le {a b : ℕ} (h : a ≤ b) : dist a ≤ dist b := by
  rcases h.lt_or_eq with h | rfl
  · exact (dist_lt h).le
  · exact le_rfl

/-- The `j`-th knot on the inputs' own scale, `-10` to `10` as `j` runs from `0` to `32`. -/
def knotU (j : ℕ) : ℝ := if 16 ≤ j then dist (j - 16) else -dist (16 - j)

theorem knotU_zero : knotU 0 = -10 := by
  simp [knotU, dist_sixteen]

theorem knotU_top : knotU 32 = 10 := by
  simp [knotU, dist_sixteen]

theorem knotU_strictMono : StrictMono knotU := by
  refine strictMono_nat_of_lt_succ fun j => ?_
  unfold knotU
  split_ifs with h1 h2 h2
  · exact dist_lt (by omega)
  · omega
  · have : j = 15 := by omega
    subst this
    norm_num
    have := dist_lt (show 0 < 1 by norm_num)
    rw [dist_zero] at this ⊢
    linarith
  · exact neg_lt_neg (dist_lt (by omega))

/-- The `j`-th knot on the unit interval. -/
def knot (j : ℕ) : ℝ := (knotU j + 10) / 20

theorem knot_strictMono : StrictMono knot := fun a b h => by
  have := knotU_strictMono h
  unfold knot
  linarith

theorem knot_zero : knot 0 = 0 := by simp [knot, knotU_zero]
theorem knot_top : knot 32 = 1 := by norm_num [knot, knotU_top]

/-- The width of the `j`-th cell. -/
def width (j : ℕ) : ℝ := knot (j + 1) - knot j

theorem width_pos (j : ℕ) : 0 < width j := sub_pos.2 (knot_strictMono j.lt_succ_self)

/-! ### The cell that the logarithm finds -/

/-- The floor of the distance's logarithm to the base of the ratio. -/
def logFloor (a : ℝ) : ℤ := ⌊Real.log (1 + a * ga) * (Real.log (6 / 5))⁻¹⌋

/-- It is the number of the interval between consecutive distances that holds the distance. -/
theorem logFloor_spec {a : ℝ} (ha : 0 ≤ a) :
    ∃ n : ℕ, logFloor a = n ∧ dist n ≤ a ∧ a < dist (n + 1) := by
  have hg := ga_pos
  have hr : 0 < Real.log (6 / 5 : ℝ) := Real.log_pos (by norm_num)
  have h1 : 1 ≤ 1 + a * ga := by nlinarith
  have h0 : 0 < 1 + a * ga := by linarith
  set g := Real.log (1 + a * ga) * (Real.log (6 / 5))⁻¹ with hgdef
  have hg0 : 0 ≤ g := mul_nonneg (Real.log_nonneg h1) (inv_nonneg.2 hr.le)
  have hmul : g * Real.log (6 / 5) = Real.log (1 + a * ga) := by
    rw [hgdef]; field_simp
  refine ⟨⌊g⌋₊, ?_, ?_, ?_⟩
  · rw [logFloor, ← hgdef]; exact (Int.natCast_floor_eq_floor hg0).symm
  · have h := Nat.floor_le hg0
    have : Real.log ((6 / 5 : ℝ) ^ ⌊g⌋₊) ≤ Real.log (1 + a * ga) := by
      rw [Real.log_pow, ← hmul]; gcongr
    have := (Real.log_le_log_iff (by positivity) h0).1 this
    unfold dist
    rw [div_le_iff₀ hg]; linarith
  · have h := Nat.lt_floor_add_one g
    have : Real.log (1 + a * ga) < Real.log ((6 / 5 : ℝ) ^ (⌊g⌋₊ + 1)) := by
      rw [Real.log_pow, ← hmul]; push_cast; gcongr
    have := (Real.log_lt_log_iff h0 (by positivity)).1 this
    unfold dist
    rw [lt_div_iff₀ hg]; linarith

/-- The cell's number as the kernel computes it: outwards from the centre on either side. -/
def cell (u : ℝ) : ℤ := if 0 ≤ u then 16 + logFloor |u| else 15 - logFloor |u|

/-- Inside the interval the number is a cell's, and the cell, its upper end included, holds the input. -/
theorem cell_inside {u : ℝ} (hl : -10 < u) (hh : u < 10) :
    ∃ K : ℕ, K < 32 ∧ cell u = K ∧ knotU K ≤ u ∧ u ≤ knotU (K + 1) := by
  obtain ⟨n, hn, h1, h2⟩ := logFloor_spec (abs_nonneg u)
  have hn16 : n < 16 := by
    by_contra hc
    have := dist_le (show 16 ≤ n by omega)
    rw [dist_sixteen] at this
    have := abs_lt.2 ⟨hl, hh⟩
    linarith
  unfold cell
  rw [hn]
  by_cases hu : 0 ≤ u
  · rw [abs_of_nonneg hu] at h1 h2
    refine ⟨16 + n, by omega, by simp [hu], ?_, ?_⟩
    · simpa [knotU] using h1
    · have : 16 + n + 1 - 16 = n + 1 := by omega
      simp only [knotU, show 16 ≤ 16 + n + 1 by omega, if_true, this]
      exact h2.le
  · rw [abs_of_neg (not_le.1 hu)] at h1 h2
    refine ⟨15 - n, by omega, ?_, ?_, ?_⟩
    · rw [if_neg hu]; push_cast [show n ≤ 15 by omega]; ring
    · have : 16 - (15 - n) = n + 1 := by omega
      simp only [knotU, show ¬ 16 ≤ 15 - n by omega, if_false, this]
      linarith
    · rcases Nat.eq_zero_or_pos n with rfl | hp
      · simp only [knotU, show 16 ≤ 15 - 0 + 1 by omega, if_true]
        simp only [show 15 - 0 + 1 - 16 = 0 by omega, dist_zero]
        exact (not_le.1 hu).le
      · have : 16 - (15 - n + 1) = n := by omega
        simp only [knotU, show ¬ 16 ≤ 15 - n + 1 by omega, if_false, this]
        linarith

/-- Outside the open interval the number is no cell's. -/
theorem cell_outside {u : ℝ} (h : u ≤ -10 ∨ 10 ≤ u) : cell u < 0 ∨ 31 < cell u := by
  obtain ⟨n, hn, h1, h2⟩ := logFloor_spec (abs_nonneg u)
  have hn16 : 16 ≤ n := by
    by_contra hc
    have := dist_le (show n + 1 ≤ 16 by omega)
    rw [dist_sixteen] at this
    have : 10 ≤ |u| := le_abs'.2 h
    linarith
  unfold cell
  rw [hn]
  split_ifs <;> omega

/-! ### The map -/

/-- The map's value at the `k`-th knot: the sum of the areas under the density's straight pieces. -/
def area (v : ℕ → ℝ) (k : ℕ) : ℝ := ∑ i ∈ Finset.range k, (v i + v (i + 1)) / 2 * width i

/-- The quadratic of the `k`-th cell. -/
def quad (v : ℕ → ℝ) (k : ℕ) (x : ℝ) : ℝ :=
  area v k + (x - knot k) ^ 2 / 2 * (v (k + 1) - v k) / width k + (x - knot k) * v k

theorem quad_left (v : ℕ → ℝ) (k : ℕ) : quad v k (knot k) = area v k := by
  simp [quad]

theorem quad_right (v : ℕ → ℝ) (k : ℕ) : quad v k (knot (k + 1)) = area v (k + 1) := by
  have h := (width_pos k).ne'
  rw [area, Finset.sum_range_succ, quad, area, show knot (k + 1) - knot k = width k from rfl]
  field_simp
  ring

/-- The half slope of the `k`-th cell: the coefficient of the square. -/
def coef2 (v : ℕ → ℝ) (k : ℕ) : ℝ := (v (k + 1) - v k) * (1 / 2 * (1 / width k))
/-- The coefficient of the first power. -/
def coef1 (v : ℕ → ℝ) (k : ℕ) : ℝ := v k - 2 * knot k * coef2 v k
/-- The constant coefficient. -/
def coef0 (v : ℕ → ℝ) (k : ℕ) : ℝ := area v k + knot k * knot k * coef2 v k - knot k * v k

/-- The quadratic by its coefficients. -/
theorem quad_coef (v : ℕ → ℝ) (k : ℕ) (x : ℝ) :
    coef0 v k + x * (coef1 v k + x * coef2 v k) = quad v k x := by
  have h := (width_pos k).ne'
  unfold coef0 coef1 coef2 quad
  field_simp
  ring

/-- Two cells that hold one input give one value: they are one cell, or neighbours that meet at the input. -/
theorem quad_meet (v : ℕ → ℝ) {u : ℝ} {K k : ℕ} (h1 : knotU K ≤ u) (h2 : u ≤ knotU (K + 1))
    (h3 : knotU k ≤ u) (h4 : u < knotU (k + 1)) : quad v K ((u + 10) / 20) = quad v k ((u + 10) / 20) := by
  have ha : K < k + 1 := knotU_strictMono.lt_iff_lt.1 (h1.trans_lt h4)
  have hb : k ≤ K + 1 := knotU_strictMono.le_iff_le.1 (h3.trans h2)
  rcases (show k = K ∨ k = K + 1 by omega) with rfl | rfl
  · rfl
  · have : u = knotU (K + 1) := le_antisymm h2 h3
    subst this
    rw [show (knotU (K + 1) + 10) / 20 = knot (K + 1) from rfl, quad_right, quad_left]

/-- The number of knots at or below an input of the half open interval. -/
theorem knots_below {u : ℝ} (hl : -10 ≤ u) (hh : u < 10) :
    ∃ k : ℕ, k < 32 ∧ knotU k ≤ u ∧ u < knotU (k + 1) := by
  classical
  have hex : ∃ j, u < knotU j := ⟨32, by rw [knotU_top]; exact hh⟩
  have hpos : Nat.find hex ≠ 0 := fun h => by
    have := Nat.find_spec hex
    rw [h, knotU_zero] at this
    linarith
  refine ⟨Nat.find hex - 1, ?_, ?_, ?_⟩
  · have := Nat.find_min' hex (show u < knotU 32 by rw [knotU_top]; exact hh)
    omega
  · exact not_lt.1 (Nat.find_min hex (show Nat.find hex - 1 < Nat.find hex by omega))
  · rw [show Nat.find hex - 1 + 1 = Nat.find hex by omega]; exact Nat.find_spec hex

end Cert.QMap

end
-- ==== Proof.Consts.lean ====
/- The programs' float constants as real numbers, and the mesh formula that both programs evaluate: its value at the
   `j`-th index is the `j`-th knot. -/
module

public import proofs.«01_k».proof.Proof.Mesh
public import Idealize.ShloMosaic.PureOps.Ideal
public import Idealize.ShloMosaic.PureOps.Ideal.Laws
public import Idealize.ShloMosaic.Lib.IdealHost

@[expose] public section

noncomputable section

namespace Cert.QMap

open Idealize.ShloMosaic

/-- The slope outside the interval: the float nearest to a millionth. -/
def beta : ℝ := 8796093 / 2 ^ 43

theorem lit_beta : Ideal.ofBits .f32 0x358637BD#32 = ((beta : ℝ) : EReal) := by
  simp [Ideal.ofBits, Ideal.ieee, -EReal.coe_mul, beta]; norm_num
theorem lit_ten : Ideal.ofBits .f32 0x41200000#32 = ((10 : ℝ) : EReal) := by
  simp [Ideal.ofBits, Ideal.ieee, -EReal.coe_mul]; norm_num
theorem lit_neg_ten : Ideal.ofBits .f32 0xC1200000#32 = ((-10 : ℝ) : EReal) := by
  simp [Ideal.ofBits, Ideal.ieee, -EReal.coe_mul]; norm_num
theorem lit_twenty : Ideal.ofBits .f32 0x41A00000#32 = ((20 : ℝ) : EReal) := by
  simp [Ideal.ofBits, Ideal.ieee, -EReal.coe_mul]; norm_num
theorem lit_two : Ideal.ofBits .f32 0x40000000#32 = ((2 : ℝ) : EReal) := by
  simp [Ideal.ofBits, Ideal.ieee, -EReal.coe_mul]; norm_num
theorem lit_half : Ideal.ofBits .f32 0x3F000000#32 = ((1 / 2 : ℝ) : EReal) := by
  simp [Ideal.ofBits, Ideal.ieee, -EReal.coe_mul]; norm_num
theorem lit_sixteen : Ideal.ofBits .f32 0x41800000#32 = ((16 : ℝ) : EReal) := by
  simp [Ideal.ofBits, Ideal.ieee, -EReal.coe_mul]; norm_num
theorem lit_fifteen : Ideal.ofBits .f32 0x41700000#32 = ((15 : ℝ) : EReal) := by
  simp [Ideal.ofBits, Ideal.ieee, -EReal.coe_mul]; norm_num
theorem lit_thirty_one : Ideal.ofBits .f32 0x41F80000#32 = ((31 : ℝ) : EReal) := by
  simp [Ideal.ofBits, Ideal.ieee, -EReal.coe_mul]; norm_num
theorem lit_six : Ideal.ofBits .f32 0x40C00000#32 = ((6 : ℝ) : EReal) := by
  simp [Ideal.ofBits, Ideal.ieee, -EReal.coe_mul]; norm_num
theorem lit_five : Ideal.ofBits .f32 0x40A00000#32 = ((5 : ℝ) : EReal) := by
  simp [Ideal.ofBits, Ideal.ieee, -EReal.coe_mul]; norm_num

/-- A quotient of reals. -/
theorem div_real (a : ℝ) {b : ℝ} (hb : b ≠ 0) : Ideal.div (a : EReal) (b : EReal) = ((a / b : ℝ) : EReal) := by
  rw [Ideal.div_coe hb, ← EReal.coe_mul, mul_one_div]

/-- The size of a real. -/
theorem abs_real (a : ℝ) : max (a : EReal) (-(a : EReal)) = ((|a| : ℝ) : EReal) := by
  rw [← EReal.coe_neg, abs_eq_max_neg]; exact (EReal.coe_strictMono.monotone.map_max).symm

/-- The ratio, as the programs evaluate it. -/
theorem ratio_eq : Ideal.div (Ideal.ofBits .f32 0x40C00000#32) (Ideal.ofBits .f32 0x40A00000#32) = ((6 / 5 : ℝ) : EReal) := by
  rw [lit_six, lit_five, div_real _ (by norm_num)]

/-- The first step from the centre. -/
def step : ℝ := 10 * (6 / 5 - 1) / ((6 / 5) ^ 16 - 1)

theorem step_ga : step * 5 = 1 / ga := by
  norm_num [step, ga]

theorem step_eq : Ideal.div (Ideal.ofBits .f32 0x41200000#32 * (((6 / 5 : ℝ) : EReal) - 1))
    (Ideal.pow ((6 / 5 : ℝ) : EReal) (Ideal.ofBits .f32 0x41800000#32) - 1) = ((step : ℝ) : EReal) := by
  rw [lit_ten, lit_sixteen, Ideal.pow_coe_coe, ← EReal.coe_one, ← EReal.coe_sub, ← EReal.coe_mul, ← EReal.coe_sub,
    show Real.rpow (6 / 5) 16 = (6 / 5 : ℝ) ^ 16 from Real.rpow_natCast (6 / 5 : ℝ) 16,
    div_real _ (by norm_num)]
  rfl

/-- The geometric sum at a distance of `n` steps. -/
theorem geom_eq (n : ℕ) : Ideal.div (1 - Ideal.pow ((6 / 5 : ℝ) : EReal) ((n : ℝ) : EReal)) (1 - ((6 / 5 : ℝ) : EReal))
    = (((6 / 5) ^ n - 1) * 5 : ℝ) := by
  rw [Ideal.pow_coe_coe, show Real.rpow (6 / 5) n = (6 / 5 : ℝ) ^ n from Real.rpow_natCast _ _,
    ← EReal.coe_one, ← EReal.coe_sub, ← EReal.coe_sub, div_real _ (by norm_num)]
  congr 1
  ring

/-- The mesh formula at the `j`-th index. -/
theorem mesh_formula (j : ℕ) (a : EReal) (ha : a = ((j - 16 : ℝ) : EReal)) :
    Ideal.div (Ideal.div ((if 0 ≤ a then
        (step : EReal) * Ideal.div (1 - Ideal.pow ((6 / 5 : ℝ) : EReal) (max a (-a))) (1 - ((6 / 5 : ℝ) : EReal))
      else -(step : EReal) * Ideal.div (1 - Ideal.pow ((6 / 5 : ℝ) : EReal) (max a (-a))) (1 - ((6 / 5 : ℝ) : EReal)))
      + Ideal.ofBits .f32 0x41200000#32) (Ideal.ofBits .f32 0x40000000#32)) (Ideal.ofBits .f32 0x41200000#32)
    = ((knot j : ℝ) : EReal) := by
  subst ha
  rw [abs_real, lit_ten, lit_two]
  have hs := step_ga
  by_cases hj : 16 ≤ j
  · have h0 : (0 : ℝ) ≤ j - 16 := by
      have : (16 : ℝ) ≤ j := by exact_mod_cast hj
      linarith
    rw [if_pos (by exact_mod_cast h0), abs_of_nonneg h0,
      show ((j : ℝ) - 16) = ((j - 16 : ℕ) : ℝ) by push_cast [hj]; ring, geom_eq,
      ← EReal.coe_mul, ← EReal.coe_add, div_real _ (by norm_num), div_real _ (by norm_num)]
    congr 1
    rw [knot, knotU, if_pos hj, dist, div_eq_mul_one_div _ ga, ← hs]
    ring
  · have h0 : (j : ℝ) - 16 < 0 := by
      have : (j : ℝ) < 16 := by exact_mod_cast not_le.1 hj
      linarith
    rw [if_neg (by rw [not_le]; exact_mod_cast h0), abs_of_neg h0,
      show -((j : ℝ) - 16) = ((16 - j : ℕ) : ℝ) by push_cast [(not_le.1 hj).le]; ring, geom_eq,
      ← EReal.coe_neg, ← EReal.coe_mul, ← EReal.coe_add, div_real _ (by norm_num), div_real _ (by norm_num)]
    congr 1
    rw [knot, knotU, if_neg hj, dist, div_eq_mul_one_div _ ga, ← hs]
    ring

end Cert.QMap

end
-- ==== Proof.Density.lean ====
/- The density at the knots: the exponentials of a column, scaled so that the area is one. The extended reals' conventions
   leave it a real number at every column, the ones that hold infinities included. -/
module

public import proofs.«01_k».proof.Proof.Consts

@[expose] public section

noncomputable section

namespace Cert.QMap

open Idealize.ShloMosaic

/-- The mean width of the two cells at the knot `x + 1`. -/
def half (x : ℕ) : ℝ := (width x + width (x + 1)) / 2

theorem half_pos (x : ℕ) : 0 < half x := by
  have := width_pos x
  have := width_pos (x + 1)
  unfold half
  linarith

/-- The area that the inner knots share. -/
def mass : ℝ := 1 - (width 0 + width 31) * beta / 2

theorem mass_pos : 0 < mass := by
  have h : ∀ j, 0 ≤ j → j < 32 → width j ≤ 1 := fun j _ hj => by
    have h0 := knot_strictMono.monotone (Nat.zero_le j)
    have h1 := knot_strictMono.monotone (show j + 1 ≤ 32 by omega)
    rw [knot_zero] at h0
    rw [knot_top] at h1
    unfold width
    linarith
  have h0 := h 0 le_rfl (by norm_num)
  have h1 := h 31 (by norm_num) (by norm_num)
  unfold mass beta
  nlinarith

/-- The exponential is not negative. -/
theorem exp_nonneg (a : EReal) : 0 ≤ Ideal.exp a := by
  induction a with
  | bot => rw [Ideal.exp_bot]
  | top => rw [Ideal.exp_top]; exact le_top
  | coe r => rw [Ideal.exp_coe]; exact_mod_cast (Real.exp_pos r).le

/-- The exponentials' area. -/
def den (q : Fin 31 → EReal) : EReal := ∑ x, Ideal.exp (q x) * ((half x : ℝ) : EReal)

/-- The scaled exponential. -/
def inner (q : Fin 31 → EReal) (i : Fin 31) : EReal := Ideal.exp (q i) * Ideal.div ((mass : ℝ) : EReal) (den q)

/-- The scaled exponential is a real number. -/
theorem inner_real (q : Fin 31 → EReal) (i : Fin 31) : ∃ r : ℝ, inner q i = (r : EReal) := by
  have hterm : ∀ x, 0 ≤ Ideal.exp (q x) * ((half x : ℝ) : EReal) := fun x =>
    mul_nonneg (exp_nonneg _) (by exact_mod_cast (half_pos x).le)
  have hle : Ideal.exp (q i) * ((half i : ℝ) : EReal) ≤ den q :=
    Finset.single_le_sum (f := fun x => Ideal.exp (q x) * ((half x : ℝ) : EReal)) (fun x _ => hterm x) (Finset.mem_univ i)
  have hden : 0 ≤ den q := (hterm i).trans hle
  have hh : (0 : EReal) < ((half i : ℝ) : EReal) := by exact_mod_cast half_pos i
  unfold inner
  have he := exp_nonneg (q i)
  generalize Ideal.exp (q i) = e at hle he ⊢
  generalize den q = d at hle hden ⊢
  induction d with
  | bot => simp at hden
  | top => exact ⟨0, by simp [Ideal.div]⟩
  | coe d =>
    induction e with
    | bot => simp at he
    | top => rw [EReal.top_mul_of_pos hh] at hle; simp at hle
    | coe e =>
      by_cases hd : d = 0
      · subst hd
        refine ⟨0, ?_⟩
        have he0 : e = 0 := by
          have h1 : e * half i ≤ 0 := by exact_mod_cast hle
          have h2 : 0 ≤ e := by exact_mod_cast he
          have := half_pos i
          nlinarith
        subst he0
        simp
      · exact ⟨e * (mass / d), by rw [div_real _ hd, ← EReal.coe_mul]⟩

/-- The density at the `k`-th knot. -/
def dens (q : Fin 31 → EReal) (k : ℕ) : ℝ :=
  if k < 1 then beta else if h : k - 1 < 31 then (inner q ⟨k - 1, h⟩).toReal else beta

theorem inner_eq (q : Fin 31 → EReal) (i : Fin 31) : inner q i = (((inner q i).toReal : ℝ) : EReal) := by
  obtain ⟨r, hr⟩ := inner_real q i
  rw [hr, EReal.toReal_coe]

/-- The density as a program assembles it. -/
theorem dens_coe (q : Fin 31 → EReal) (k : ℕ) :
    (if k < 1 then ((beta : ℝ) : EReal) else if h : k - 1 < 31 then inner q ⟨k - 1, h⟩ else ((beta : ℝ) : EReal))
      = ((dens q k : ℝ) : EReal) := by
  unfold dens
  split_ifs
  · rfl
  · exact inner_eq q _
  · rfl

theorem dens_first (q : Fin 31 → EReal) {k : ℕ} (h : k < 1) : dens q k = beta := if_pos h

theorem dens_between (q : Fin 31 → EReal) {k : ℕ} (h : ¬ k < 1) (h' : k - 1 < 31) : ((dens q k : ℝ) : EReal) = inner q ⟨k - 1, h'⟩ := by
  rw [dens, if_neg h, dif_pos h', ← inner_eq]

theorem dens_last (q : Fin 31 → EReal) {k : ℕ} (h : ¬ k - 1 < 31) : dens q k = beta := by
  rw [dens, if_neg (by omega), dif_neg h]

/-- Half of a product by a real is the product by the half. -/
theorem half_mul (e : EReal) (s : ℝ) : Ideal.div (e * (s : EReal)) ((2 : ℝ) : EReal) = e * ((s / 2 : ℝ) : EReal) := by
  rw [Ideal.div_coe (by norm_num), mul_assoc, ← EReal.coe_mul, mul_one_div]

end Cert.QMap

end
-- ==== Proof.HostMesh.lean ====
/- The kernel's host part before the first launch, read at an index: the knots, the widths and the half weights. -/
module

public import proofs.«01_k».proof.Proof.Gen.KernelIdeal.Frame
public import proofs.«01_k».proof.Proof.Density
public import Idealize.ShloMosaic.Lib.Pointwise
public import Idealize.ShloMosaic.Lib.StableHlo.ReadAt
public import Idealize.ShloMosaic.Lib.Tactic.CleanTypes
public import Idealize.ShloMosaic.PureOps.Ideal

@[expose] public section

set_option maxRecDepth 16384

noncomputable section

namespace Cert.KernelIdeal.KValue

open Cert.KernelIdeal Cert.KernelIdeal.Gen Cert.QMap
open Idealize.ShloMosaic Idealize.ShloMosaic.Pointwise

variable (V : Valuation τ sig (Elt Ideal))

/-- A knot's distance from the middle one, as the host counts it. -/
theorem count_at (j : Fin 33) : (FloatOps.sitofp (F := Ideal) .f32 (BitVec.ofNat 32 j.val) : Ideal .f32) - Ideal.ofBits .f32 1098907648#32
    = ((j - 16 : ℝ) : EReal) := by
  rw [lit_sixteen, EReal.coe_sub]
  refine congrArg (· - ((16 : ℝ) : EReal)) ?_
  have this := (by decide : ∀ j : Fin 33, (BitVec.ofNat 32 j.val).toInt = (j.val : ℤ)) j
  simp [FloatOps.sitofp, this]

theorem side_at (j : Fin 33) : StableHlo.after (hostOps0 (F := Ideal)) V (Proc.devRef .tc main_v26) (ix2 j 0)
    = BitVec.ofBool (decide ((0 : EReal) ≤ ((j - 16 : ℝ) : EReal))) := by
  after_reads_at
  rw [count_at]

theorem up_at (j : Fin 33) : StableHlo.after (hostOps0 (F := Ideal)) V (Proc.devRef .tc main_v28) (ix2 j 0)
    = ((step : ℝ) : EReal) * Ideal.div (1 - Ideal.pow ((6 / 5 : ℝ) : EReal)
      (max ((j - 16 : ℝ) : EReal) (-((j - 16 : ℝ) : EReal)))) (1 - ((6 / 5 : ℝ) : EReal)) := by
  after_reads_at
  rw [count_at, ratio_eq, step_eq]
  rfl

theorem down_at (j : Fin 33) : StableHlo.after (hostOps0 (F := Ideal)) V (Proc.devRef .tc main_v31) (ix2 j 0)
    = -((step : ℝ) : EReal) * Ideal.div (1 - Ideal.pow ((6 / 5 : ℝ) : EReal)
      (max ((j - 16 : ℝ) : EReal) (-((j - 16 : ℝ) : EReal)))) (1 - ((6 / 5 : ℝ) : EReal)) := by
  after_reads_at
  rw [count_at, ratio_eq, step_eq]
  rfl

theorem choice_at (j : Fin 33) : StableHlo.after (hostOps0_1 (F := Ideal)) V (Proc.devRef .tc main_v32) (ix2 j 0)
    = if V (Proc.devRef .tc main_v26) (ix2 j 0) = 1#1 then V (Proc.devRef .tc main_v28) (ix2 j 0)
      else V (Proc.devRef .tc main_v31) (ix2 j 0) := by
  after_reads_at
  rfl

/-- The operations up to the knots. -/
abbrev toKnots : List (HloOp τ sig (Elt Ideal)) := (hostOps0_2 (F := Ideal)).take 15
/-- The operations from the knots on. -/
abbrev fromKnots : List (HloOp τ sig (Elt Ideal)) := (hostOps0_2 (F := Ideal)).drop 15

theorem split_knots (b) : StableHlo.after (hostOps0_2 (F := Ideal)) V b = StableHlo.after fromKnots (StableHlo.after toKnots V) b :=
  congrFun (StableHlo.after_append toKnots fromKnots V) b

/-- The knots' buffer at a row. -/
abbrev atKnot (j : Fin 33) : EReal := V (Proc.devRef .tc main_v42) (ix2 j 0)
/-- The select's buffer at a row. -/
abbrev atRaw (j : Fin 33) : EReal := V (Proc.devRef .tc main_v32) (ix2 j 0)

theorem widths_read (j : Fin 32) : StableHlo.after fromKnots V (Proc.devRef .tc main_v54) (ix2 j 0)
    = (atKnot V j.succ - atKnot V j.castSucc : EReal) := by
  after_reads_at
  rw [show (⟨1 + j.val, by omega⟩ : Fin 33) = j.succ from Fin.ext (Nat.add_comm _ _)]
  rfl

theorem halves_read (i : Fin 31) : StableHlo.after fromKnots V (Proc.devRef .tc main_v53) (ix2 i 0)
    = Ideal.div ((atKnot V i.succ.castSucc - atKnot V i.castSucc.castSucc)
      + (atKnot V i.succ.succ - atKnot V i.succ.castSucc) : EReal)
        (Ideal.ofBits .f32 1073741824#32) := by
  after_reads_at
  rw [show (⟨1 + i.val, by omega⟩ : Fin 33) = i.succ.castSucc from Fin.ext (Nat.add_comm _ _),
    show (⟨1 + (1 + i.val), by omega⟩ : Fin 33) = i.succ.succ from Fin.ext (by simp; omega)]
  rfl

theorem lefts_read (j : Fin 32) : StableHlo.after fromKnots V (Proc.devRef .tc main_v56) (ix2 j 0)
    = atKnot V j.castSucc := by
  after_reads_at
  rfl

theorem inner_read (i : Fin 31) : StableHlo.upto (hostOps0_2 (F := Ideal)) V 14 (Proc.devRef .tc main_v40) (ix2 i 0)
    = Ideal.div (Ideal.div (atRaw V i.succ.castSucc + Ideal.ofBits .f32 1092616192#32 : EReal)
      (Ideal.ofBits .f32 1073741824#32)) (Ideal.ofBits .f32 1092616192#32) := by
  after_reads_at
  rw [show (⟨1 + i.val, by omega⟩ : Fin 33) = i.succ.castSucc from Fin.ext (Nat.add_comm _ _)]

theorem first_read : StableHlo.upto (hostOps0_2 (F := Ideal)) V 14 (Proc.devRef .tc main_v39) (ix2 0 0) = (0 : EReal) := by
  after_reads_at

theorem last_read : StableHlo.upto (hostOps0_2 (F := Ideal)) V 14 (Proc.devRef .tc main_v41) (ix2 0 0) = (1 : EReal) := by
  after_reads_at

/-- Three columns set one below another. -/
theorem knots_form (a c : FVec Ideal S1x1 .f32) (b : FVec Ideal S31x1 .f32) (j : Fin 33) :
    (concatenate S33x1 0 [⟨S1x1, a⟩, ⟨S31x1, b⟩, ⟨S1x1, c⟩] concatenates_S1x1_S31x1_S1x1_S33x1_d0 : FVec Ideal S33x1 .f32) (ix2 j 0)
      = if j.val < 1 then a (ix2 0 0) else if h : j.val - 1 < 31 then b (ix2 ⟨j.val - 1, h⟩ 0) else c (ix2 0 0) := by
  pointwise
  by_cases h0 : j.val < 1
  · refine (dif_pos h0).trans (Eq.trans ?_ (if_pos h0).symm)
    rw [show (⟨j.val, h0⟩ : Fin 1) = 0 from Subsingleton.elim _ _]
  refine (dif_neg h0).trans (Eq.trans ?_ (if_neg h0).symm)
  by_cases h1 : j.val - 1 < 31
  · refine (dif_pos h1).trans (Eq.trans ?_ (dif_pos h1).symm)
    rfl
  refine (dif_neg h1).trans (Eq.trans ?_ (dif_neg h1).symm)
  exact congrArg (fun i : Fin 1 => c (ix2 i 0)) (Subsingleton.elim _ _)

theorem knots_read (j : Fin 33) : StableHlo.after toKnots V (Proc.devRef .tc main_v42) (ix2 j 0)
    = if j.val < 1 then StableHlo.upto (hostOps0_2 (F := Ideal)) V 14 (Proc.devRef .tc main_v39) (ix2 0 0)
      else if h : j.val - 1 < 31 then StableHlo.upto (hostOps0_2 (F := Ideal)) V 14 (Proc.devRef .tc main_v40) (ix2 ⟨j.val - 1, h⟩ 0)
      else StableHlo.upto (hostOps0_2 (F := Ideal)) V 14 (Proc.devRef .tc main_v41) (ix2 0 0) :=
  knots_form _ _ _ j

variable (m : (ℓ : Loc nD τ sig) → Buf (Elt Ideal) ℓ) (ρ : Dev nD → PrngReg) (c : Dev nD)

/-- What the host's select leaves. -/
theorem raw_at (j : Fin 33) : W2 m ρ c (Proc.devRef .tc main_v32) (ix2 j 0) = if (0 : EReal) ≤ ((j - 16 : ℝ) : EReal) then
      ((step : ℝ) : EReal) * Ideal.div (1 - Ideal.pow ((6 / 5 : ℝ) : EReal)
        (max ((j - 16 : ℝ) : EReal) (-((j - 16 : ℝ) : EReal)))) (1 - ((6 / 5 : ℝ) : EReal))
    else -((step : ℝ) : EReal) * Ideal.div (1 - Ideal.pow ((6 / 5 : ℝ) : EReal)
        (max ((j - 16 : ℝ) : EReal) (-((j - 16 : ℝ) : EReal)))) (1 - ((6 / 5 : ℝ) : EReal)) := by
  refine (choice_at (W1 m ρ c) j).trans ?_
  refine if_congr ((Eq.to_iff (congrArg (· = 1#1) (side_at (W0 m ρ c) j))).trans ?_) (up_at (W0 m ρ c) j) (down_at (W0 m ρ c) j)
  generalize ((j - 16 : ℝ) : EReal) = a
  by_cases h : (0 : EReal) ≤ a <;> simp [h]

/-- The knots. -/
theorem host_knot (j : Fin 33) : StableHlo.after toKnots (W2 m ρ c) (Proc.devRef .tc main_v42) (ix2 j 0) = ((knot j : ℝ) : EReal) := by
  refine (knots_read _ j).trans ?_
  by_cases h0 : (j : ℕ) < 1
  · refine (if_pos h0).trans ((first_read _).trans ?_)
    rw [show (j : ℕ) = 0 by omega, knot_zero]
    rfl
  refine (if_neg h0).trans ?_
  by_cases h1 : (j : ℕ) - 1 < 31
  · refine (dif_pos h1).trans ((inner_read _ _).trans ?_)
    have hj : (⟨j.val - 1, h1⟩ : Fin 31).succ.castSucc = j := Fin.ext (by simp; omega)
    unfold atRaw
    rw [hj, raw_at]
    exact mesh_formula j _ rfl
  · refine (dif_neg h1).trans ((last_read _).trans ?_)
    rw [show (j : ℕ) = 32 by omega, knot_top]
    rfl

/-- The widths, as the first launch takes them. -/
theorem host_width (k : Fin 32) : W3 m ρ c (Proc.devRef .tc main_v54) (ix2 k 0) = ((width k : ℝ) : EReal) := by
  refine (congrFun (split_knots (W2 m ρ c) _) _).trans ((widths_read _ k).trans ?_)
  unfold atKnot
  rw [host_knot, host_knot, ← EReal.coe_sub]
  rfl

/-- The half weights, as the first launch takes them. -/
theorem host_half (i : Fin 31) : W3 m ρ c (Proc.devRef .tc main_v53) (ix2 i 0) = ((half i : ℝ) : EReal) := by
  refine (congrFun (split_knots (W2 m ρ c) _) _).trans ((halves_read _ i).trans ?_)
  unfold atKnot
  rw [host_knot, host_knot, host_knot, ← EReal.coe_sub, ← EReal.coe_sub, ← EReal.coe_add, lit_two, div_real _ (by norm_num)]
  rfl

/-- The left knots, as the first launch takes them. -/
theorem host_left (k : Fin 32) : W3 m ρ c (Proc.devRef .tc main_v56) (ix2 k 0) = ((knot k : ℝ) : EReal) := by
  refine (congrFun (split_knots (W2 m ρ c) _) _).trans ((lefts_read _ k).trans ?_)
  unfold atKnot
  rw [host_knot]
  rfl

end Cert.KernelIdeal.KValue

end
-- ==== Proof.MapGather.lean ====
/- The map kernel's table look-up read at an element: the gather within eight rows, and the selection among four groups of
   eight rows, is the table's row of the element's own index. -/
module

public import proofs.«01_k».proof.Proof.Gen.KernelIdeal.Frame
public import Idealize.ShloMosaic.Lib.Pointwise
public import Idealize.ShloMosaic.Lib.Pipeline.ValueKit
public import Idealize.ShloMosaic.Lib.Tactic.WordOmega

@[expose] public section

set_option maxRecDepth 16384

noncomputable section

namespace Cert.KernelIdeal.KValue

open Cert.KernelIdeal.Gen
open Idealize.ShloMosaic Idealize.ShloMosaic.Pointwise

variable {F : FTy → Type} [FloatOps F] [Named F]

/-- The gather within eight table rows, as the kernel spells it. -/
def gath (t : Vec F S8x128 .f32) (k : IVec S4096x128 32) : FVec F S4096x128 .f32 :=
  have kk : IVec S512x8x128 32 := shapeCast S512x8x128 k shapeCasts_S4096x128_S512x8x128
  shapeCast S4096x128 (dynamicGather 1
    (broadcastTo S512x8x128 (shapeCast S1x8x128 (shapeCast S1x8x128 (shapeCast S8x128 t shapeCasts_S8x128_S8x128)
      shapeCasts_S8x128_S1x8x128) shapeCasts_S1x8x128_S1x8x128) broadcasts_S1x8x128_S512x8x128)
    (shapeCast S512x8x128 (shapeCast S512x8x128x1
      (select (cmpi .slt kk (broadcast S512x8x128 0#32)) (addi kk (broadcast S512x8x128 8#32)) kk)
      shapeCasts_S512x8x128_S512x8x128x1) shapeCasts_S512x8x128x1_S512x8x128)) shapeCasts_S512x8x128_S4096x128

/-- The look-up in a table of 32 rows: a gather in each group of eight, and a selection by the group's number. -/
def lut (t : Vec F S32x128 .f32) (klo khi : IVec S4096x128 32) : FVec F S4096x128 .f32 :=
  select (cmpi .sge khi (broadcast S4096x128 2#32))
    (select (cmpi .eq khi (broadcast S4096x128 3#32)) (gath (View.ld t r1_4) klo) (gath (View.ld t r1_3) klo))
    (select (cmpi .eq khi (broadcast S4096x128 1#32)) (gath (View.ld t r1_2) klo) (gath (View.ld t r1_1) klo))

/-- The step after the polynomial: back to the interval's own scale, and a slope of beta outside it. -/
def spread (yn : FVec F S4096x128 .f32) : FVec F S4096x128 .f32 :=
  have c10 := broadcast S4096x128 (Scalar.ofBits .f32 0x41200000#32 : F .f32)
  have β := broadcast S4096x128 (Scalar.ofBits .f32 0x358637BD#32 : F .f32)
  have y := subf (mulf yn (broadcast S4096x128 (Scalar.ofBits .f32 0x41A00000#32 : F .f32))) c10
  have y' := select (cmpf .ogt y c10) (addf (mulf β (subf y c10)) c10) y
  select (cmpf .olt y' (broadcast S4096x128 (Scalar.ofBits .f32 0xC1200000#32 : F .f32)))
    (subf (mulf β (addf y' c10)) c10) y'

/-- The polynomial of the element's cell, or the element itself where no cell covers it. -/
def poly (u : FVec F S4096x128 .f32) (x1 x2 x3 : Vec F S32x128 .f32) : FVec F S4096x128 .f32 :=
  select (k1_pay4 u)
    (addf (lut x1 (k1_pay6 u) (k1_pay7 u)) (mulf (k1_pay2 u) (addf (lut x2 (k1_pay6 u) (k1_pay7 u))
      (mulf (k1_pay2 u) (lut x3 (k1_pay6 u) (k1_pay7 u)))))) (k1_pay2 u)

theorem zero2 : (![0, 0] : Fin 2 → ℕ) = fun _ => 0 := by decide

/-- The map kernel's output block, its twelve gathers under one name. -/
theorem out1_4_eq (x0 : Vec F S4096x128 .f32) (x1 x2 x3 : Vec F S32x128 .f32) :
    out1_4 x0 x1 x2 x3 = spread (poly x0 x1 x2 x3) := by
  have h : out1_4 x0 x1 x2 x3 = View.canon [⟨r1_0, spread (poly (View.ld x0 r1_0) x1 x2 x3)⟩] := rfl
  rw [h, View.canon_unit_zero zero2, View.ld_unit_zero zero2]

/-- One gather read at an element whose index word is below eight. -/
theorem gath_apply (t : Vec F S8x128 .f32) (k : IVec S4096x128 32) (r : Fin 4096) (l : Fin 128)
    (h : (k (ix2 r l)).toNat < 8) : gath t k (ix2 r l) = t (ix2 ⟨(k (ix2 r l)).toNat, h⟩ l) := by
  unfold gath
  pointwise
  have hw : ∀ w : BitVec 32, w.toNat < 8 →
      Scalar.select (IntOp.cmpi CmpIPredicate.slt w 0#32) (IntOp.addi w 8#32) w = w := by
    intro w h
    word_omega
  refine congrArg t (congrArg (ix2 · l) (Fin.ext ?_))
  simp only [hw _ h]
  omega

/-- The look-up read at an element whose index is below 32: the table's row of that index. -/
theorem lut_apply (t : Vec F S32x128 .f32) (klo khi : IVec S4096x128 32) (r : Fin 4096) (l : Fin 128) (n : ℕ) (hn : n < 32)
    (hlo : klo (ix2 r l) = IntOp.andi (BitVec.ofNat 32 n) 7#32) (hhi : khi (ix2 r l) = IntOp.shrsi .vector (BitVec.ofNat 32 n) 3#32) :
    lut t klo khi (ix2 r l) = t (ix2 ⟨n, hn⟩ l) := by
  have hlt : (klo (ix2 r l)).toNat < 8 := by
    rw [hlo]; clear hlo hhi; revert n; decide
  unfold lut
  pointwise
  simp only [gath_apply _ _ _ _ hlt]
  rw [hhi]
  simp only [hlo]
  interval_cases n <;>
    exact View.ld_unit_apply_of t _ _ _ _ _ (Fin.forall_fin_two.mpr ⟨rfl, (Nat.zero_add _).symm⟩)

end Cert.KernelIdeal.KValue

end
-- ==== Proof.Target.lean ====
/- The map that both programs compute, stated once: the cell's quadratic inside the interval, the input itself outside, and
   the step back to the input's own scale. -/
module

public import proofs.«01_k».proof.Proof.Density

@[expose] public section

noncomputable section

namespace Cert.QMap

open Idealize.ShloMosaic

/-- The input on the unit interval. -/
def unit (u : EReal) : EReal := Ideal.div (Ideal.div (u + ((10 : ℝ) : EReal)) ((2 : ℝ) : EReal)) ((10 : ℝ) : EReal)

theorem unit_mul (u : EReal) : (u + ((10 : ℝ) : EReal)) * ((1 / 20 : ℝ) : EReal) = unit u := by
  rw [unit, Ideal.div_coe (by norm_num), Ideal.div_coe (by norm_num), mul_assoc, ← EReal.coe_mul]
  norm_num

theorem unit_real (x : ℝ) : unit (x : EReal) = (((x + 10) / 20 : ℝ) : EReal) := by
  rw [← unit_mul, ← EReal.coe_add, ← EReal.coe_mul]
  congr 1
  ring

theorem unit_top : unit ⊤ = ⊤ := by
  rw [← unit_mul, EReal.top_add_coe, EReal.top_mul_coe_of_pos (by norm_num)]

theorem unit_bot : unit ⊥ = ⊥ := by
  rw [← unit_mul, EReal.bot_add, EReal.bot_mul_coe_of_pos (by norm_num)]

/-- The map on the unit interval. -/
def onUnit (q : Fin 31 → EReal) (u : EReal) : EReal :=
  if ((-10 : ℝ) : EReal) < u ∧ u < ((10 : ℝ) : EReal) then
    ((quad (dens q) (cell u.toReal).toNat ((u.toReal + 10) / 20) : ℝ) : EReal)
  else unit u

/-- Back to the input's own scale, with a slope of beta outside the interval. -/
def back (y : EReal) : EReal :=
  let z := y * ((20 : ℝ) : EReal) - ((10 : ℝ) : EReal)
  let z' := if ((10 : ℝ) : EReal) < z then ((beta : ℝ) : EReal) * (z - ((10 : ℝ) : EReal)) + ((10 : ℝ) : EReal) else z
  if z' < ((-10 : ℝ) : EReal) then ((beta : ℝ) : EReal) * (z' + ((10 : ℝ) : EReal)) - ((10 : ℝ) : EReal) else z'

/-- Inside the interval the value is the quadratic of any cell that holds the input. -/
theorem onUnit_inside (q : Fin 31 → EReal) {u : ℝ} {k : ℕ} (hk : k < 32) (h1 : knotU k ≤ u) (h2 : u < knotU (k + 1)) :
    onUnit q (u : EReal) = ((quad (dens q) k ((u + 10) / 20) : ℝ) : EReal) := by
  have hl : -10 ≤ u := by
    rw [← knotU_zero]; exact (knotU_strictMono.monotone (Nat.zero_le k)).trans h1
  have hh : u < 10 := by
    rw [← knotU_top]; exact h2.trans_le (knotU_strictMono.monotone (by omega))
  unfold onUnit
  rcases hl.eq_or_lt with rfl | hl
  · rw [if_neg (fun h => lt_irrefl _ h.1), unit_real]
    have hk0 : k = 0 := by
      by_contra hc
      have := knotU_strictMono (Nat.pos_of_ne_zero hc)
      rw [knotU_zero] at this
      linarith
    subst hk0
    rw [show (-10 + 10 : ℝ) / 20 = knot 0 by rw [knot_zero]; norm_num, quad_left, knot_zero]
    simp [area]
  · rw [if_pos ⟨by exact_mod_cast hl, by exact_mod_cast hh⟩, EReal.toReal_coe]
    obtain ⟨K, hK, hc, ha, hb⟩ := cell_inside hl hh
    rw [hc, Int.toNat_natCast]
    exact congrArg _ (quad_meet (dens q) ha hb h1 h2)

theorem onUnit_outside (q : Fin 31 → EReal) {u : EReal} (h : u ≤ ((-10 : ℝ) : EReal) ∨ ((10 : ℝ) : EReal) ≤ u) : onUnit q u = unit u :=
  if_neg fun hc => h.elim (fun h => absurd hc.1 (not_lt.2 h)) fun h => absurd hc.2 (not_lt.2 h)

end Cert.QMap

end
-- ==== Proof.TableRows.lean ====
/- The tables kernel's running sums: its 32 rows are one recursion, and on a real table each is the sum of the rows above. -/
module

public import proofs.«01_k».proof.Proof.MapGather
public import proofs.«01_k».proof.Proof.Target
public import Idealize.ShloMosaic.PureOps.Ideal

@[expose] public section

set_option maxRecDepth 16384

noncomputable section

namespace Cert.KernelIdeal.KValue

open Cert.KernelIdeal Cert.KernelIdeal.Gen Cert.QMap
open Idealize.ShloMosaic Idealize.ShloMosaic.Pointwise

variable {F : FTy → Type} [FloatOps F] [Named F]

theorem row_slices (n : ℕ) : S32x64.Slices ![n % 32, 0] S1x64 := by
  refine ⟨rfl, Fin.forall_fin_two.2 ⟨?_, ?_⟩⟩
  · show n % 32 + 1 ≤ 32
    omega
  · show 0 + 64 ≤ 64
    omega

/-- The sum of the first `n` rows of a table, added one by one. -/
def sumRow (C : FVec F S32x64 .f32) : ℕ → FVec F S1x64 .f32
  | 0 => broadcast S1x64 (Scalar.ofBits .f32 0x00000000#32 : F .f32)
  | n + 1 => addf (sumRow C n) (extractStridedSlice S1x64 ![n % 32, 0] C (row_slices n))

theorem rows_fit (C : FVec F S32x64 .f32) : Shape.Concatenates
    ((List.ofFn fun n : Fin 32 => (⟨S1x64, sumRow C n⟩ : (s : Shape) × (s.Idx → F .f32))).map (·.1)) S32x64 0 := by
  rw [List.map_ofFn]
  show Shape.Concatenates (List.ofFn fun _ : Fin 32 => S1x64) S32x64 0
  decide

/-- The table of the running sums is the stack of the rows. -/
theorem sums_eq (v0 : Vec F S31x1 .f32) (v2 : Vec F S32x1 .f32) (v6 : Vec F S31x64 .f32) :
    k0_pay16 (k0_pay9 v0 v2 v6) (k0_pay10 (F := F)) (k0_pay11 v0 v2 v6) (k0_pay12 v0 v2 v6) (k0_pay13 v0 v2 v6)
      (k0_pay14 v0 v2 v6) (k0_pay15 v0 v2 v6)
    = concatenate S32x64 0 (List.ofFn fun n : Fin 32 => ⟨S1x64, sumRow (k0_pay9 v0 v2 v6) n⟩) (rows_fit _) := rfl

theorem sumRow_at (C : FVec Ideal S32x64 .f32) (f : ℕ → ℝ) (l : Fin 64) (hC : ∀ k : Fin 32, C (ix2 k l) = ((f k : ℝ) : EReal))
    (n : ℕ) (hn : n < 32) : sumRow C n (ix2 0 l) = ((∑ i ∈ Finset.range n, f i : ℝ) : EReal) := by
  induction n with
  | zero =>
    unfold sumRow
    pointwise
    simp
  | succ n ih =>
    have hs : extractStridedSlice S1x64 ![n % 32, 0] C (row_slices n) (ix2 0 l) = C (ix2 ⟨n, by omega⟩ l) := by
      refine congrArg C (funext fun a => Fin.ext ?_)
      match a with
      | ⟨0, _⟩ => show n % 32 + 0 = n; omega
      | ⟨1, _⟩ => show 0 + l.val = l.val; omega
    refine (congrArg₂ (fun a b : EReal => a + b) (ih (by omega)) (hs.trans (hC _))).trans ?_
    rw [← EReal.coe_add, Finset.sum_range_succ]

theorem stack_at (C : FVec Ideal S32x64 .f32) (f : ℕ → ℝ) (l : Fin 64) (hC : ∀ k : Fin 32, C (ix2 k l) = ((f k : ℝ) : EReal))
    (k : Fin 32) : concatenate S32x64 0 (List.ofFn fun n : Fin 32 => (⟨S1x64, sumRow C n⟩ : (s : Shape) × (s.Idx → Ideal .f32))) (rows_fit _) (ix2 k l)
      = ((∑ i ∈ Finset.range k, f i : ℝ) : EReal) := by
  refine (concatenate_ofFn_unit_apply' (0 : Fin S32x64.rank) (fun n : Fin 32 => sumRow C n) (rows_fit C) rfl (ix2 k l)).trans ?_
  refine Eq.trans (congrArg (sumRow C k) (funext fun a => Fin.ext ?_)) (sumRow_at C f l hC k k.isLt)
  match a with
  | ⟨0, _⟩ => rfl
  | ⟨1, _⟩ => rfl

end Cert.KernelIdeal.KValue

end
-- ==== Proof.TableValue.lean ====
/- The tables kernel's three outputs read at an element: the coefficients of each cell's quadratic. -/
module

public import proofs.«01_k».proof.Proof.TableRows

@[expose] public section

set_option maxRecDepth 16384

noncomputable section

namespace Cert.KernelIdeal.KValue

open Cert.KernelIdeal Cert.KernelIdeal.Gen Cert.QMap
open Idealize.ShloMosaic Idealize.ShloMosaic.Pointwise

variable (p : Vec Ideal S31x64 .f32) (w : Vec Ideal S31x1 .f32) (e : Vec Ideal S32x1 .f32) (m : Vec Ideal S32x1 .f32)

/-- A column of the kernel's own argument. -/
def kcol (d : Fin 64) : Fin 31 → EReal := fun i => p (ix2 i d)

section
variable (hw : ∀ i : Fin 31, w (ix2 i 0) = ((half i : ℝ) : EReal)) (he : ∀ k : Fin 32, e (ix2 k 0) = ((width k : ℝ) : EReal))
  (hm : ∀ k : Fin 32, m (ix2 k 0) = ((knot k : ℝ) : EReal))
include hw he

theorem inner_at (i : Fin 31) (d : Fin 64) : k0_pay5 (F := Ideal) w e p (ix2 i d) = QMap.inner (kcol p d) i := by
  unfold k0_pay5 k0_pay3
  pointwise
  simp only [hw, he]
  rw [lit_beta, lit_two]
  refine congrArg (fun a => Ideal.exp (p (ix2 i d)) * Ideal.div a (den (kcol p d))) ?_
  rw [← EReal.coe_add, ← EReal.coe_mul, div_real _ (by norm_num), ← EReal.coe_one, ← EReal.coe_sub]
  rfl

/-- The density at the left knot of the cell. -/
theorem left_at (k : Fin 32) (d : Fin 64) : k0_pay7 (F := Ideal) w e p (ix2 k d) = ((dens (kcol p d) k : ℝ) : EReal) := by
  have hk := k.isLt
  unfold k0_pay7 k0_pay6
  pointwise
  by_cases h : (k : ℕ) < 1
  · rw [dens_first _ h]
    exact (dif_pos h).trans lit_beta
  · rw [dens_between _ h (by omega)]
    exact (dif_neg h).trans (inner_at p w e hw he _ d)

/-- The density at the right knot. -/
theorem right_at (k : Fin 32) (d : Fin 64) : k0_pay8 (F := Ideal) w e p (ix2 k d) = ((dens (kcol p d) (k + 1) : ℝ) : EReal) := by
  have hk := k.isLt
  unfold k0_pay8 k0_pay6
  pointwise
  by_cases h : (k : ℕ) < 31
  · rw [dens_between _ (by omega) (by omega : k.val + 1 - 1 < 31)]
    exact (dif_pos h).trans (inner_at p w e hw he _ d)
  · rw [dens_last _ (by omega)]
    exact (dif_neg h).trans lit_beta

/-- The area of the cell. -/
theorem cell_at (k : Fin 32) (d : Fin 64) : k0_pay9 (F := Ideal) w e p (ix2 k d)
    = (((dens (kcol p d) k + dens (kcol p d) (k + 1)) / 2 * width k : ℝ) : EReal) := by
  unfold k0_pay9 k0_pay3
  pointwise
  rw [left_at p w e hw he, right_at p w e hw he, he, lit_half, ← EReal.coe_add, ← EReal.coe_mul, ← EReal.coe_mul]
  refine congrArg (fun y : ℝ => (y : EReal)) ?_
  ring

/-- The half slope. -/
theorem slope_at (k : Fin 32) (d : Fin 64) : k0_pay17 (F := Ideal) (k0_pay3 e) (k0_pay7 w e p) (k0_pay8 w e p) (ix2 k d)
    = ((coef2 (dens (kcol p d)) k : ℝ) : EReal) := by
  unfold k0_pay17 k0_pay3
  pointwise
  rw [left_at p w e hw he, right_at p w e hw he, he, lit_half, ← EReal.coe_sub, div_real _ (width_pos k).ne', ← EReal.coe_mul]
  refine congrArg (fun y : ℝ => (y : EReal)) ?_
  unfold coef2
  ring

theorem out6_at (k : Fin 32) (d : Fin 64) : out0_6 (F := Ideal) p w e m (ix2 k d) = ((coef2 (dens (kcol p d)) k : ℝ) : EReal) := by
  have h : out0_6 (F := Ideal) p w e m = View.canon [⟨r0_3, k0_pay17 (k0_pay3 (View.ld e r0_1)) (k0_pay7 (View.ld w r0_0) (View.ld e r0_1) (View.ld p r0_2))
    (k0_pay8 (View.ld w r0_0) (View.ld e r0_1) (View.ld p r0_2))⟩] := rfl
  rw [h, View.canon_unit_zero zero2, View.ld_unit_zero zero2, View.ld_unit_zero zero2, View.ld_unit_zero zero2]
  exact slope_at p w e hw he k d

include hm

theorem out5_at (k : Fin 32) (d : Fin 64) : out0_5 (F := Ideal) p w e m (ix2 k d) = ((coef1 (dens (kcol p d)) k : ℝ) : EReal) := by
  have h : out0_5 (F := Ideal) p w e m = View.canon [⟨r0_3, k0_pay1 (k0_pay4 (View.ld m r0_1)) (k0_pay7 (View.ld w r0_0) (View.ld e r0_1) (View.ld p r0_2))
    (k0_pay17 (k0_pay3 (View.ld e r0_1)) (k0_pay7 (View.ld w r0_0) (View.ld e r0_1) (View.ld p r0_2))
    (k0_pay8 (View.ld w r0_0) (View.ld e r0_1) (View.ld p r0_2)))⟩] := rfl
  rw [h, View.canon_unit_zero zero2, View.ld_unit_zero zero2, View.ld_unit_zero zero2, View.ld_unit_zero zero2, View.ld_unit_zero zero2]
  have hs := slope_at p w e hw he k d
  have hl := left_at p w e hw he k d
  generalize k0_pay17 (F := Ideal) (k0_pay3 e) (k0_pay7 w e p) (k0_pay8 w e p) = S at hs
  generalize k0_pay7 (F := Ideal) w e p = L at hl
  unfold k0_pay1 k0_pay4
  pointwise
  rw [hs, hl, hm, lit_two, ← EReal.coe_mul, ← EReal.coe_mul, ← EReal.coe_sub]
  rfl

theorem out4_at (k : Fin 32) (d : Fin 64) : out0_4 (F := Ideal) p w e m (ix2 k d) = ((coef0 (dens (kcol p d)) k : ℝ) : EReal) := by
  have h : out0_4 (F := Ideal) p w e m = View.canon [⟨r0_3, k0_pay2 (k0_pay4 (View.ld m r0_1)) (k0_pay7 (View.ld w r0_0) (View.ld e r0_1) (View.ld p r0_2))
    (k0_pay16 (k0_pay9 (View.ld w r0_0) (View.ld e r0_1) (View.ld p r0_2)) (k0_pay10 (F := Ideal)) (k0_pay11 (View.ld w r0_0) (View.ld e r0_1) (View.ld p r0_2)) (k0_pay12 (View.ld w r0_0) (View.ld e r0_1) (View.ld p r0_2)) (k0_pay13 (View.ld w r0_0) (View.ld e r0_1) (View.ld p r0_2)) (k0_pay14 (View.ld w r0_0) (View.ld e r0_1) (View.ld p r0_2)) (k0_pay15 (View.ld w r0_0) (View.ld e r0_1) (View.ld p r0_2)))
    (k0_pay17 (k0_pay3 (View.ld e r0_1)) (k0_pay7 (View.ld w r0_0) (View.ld e r0_1) (View.ld p r0_2))
    (k0_pay8 (View.ld w r0_0) (View.ld e r0_1) (View.ld p r0_2)))⟩] := rfl
  rw [h, View.canon_unit_zero zero2, View.ld_unit_zero zero2, View.ld_unit_zero zero2, View.ld_unit_zero zero2, View.ld_unit_zero zero2, sums_eq]
  have hs := slope_at p w e hw he k d
  have hl := left_at p w e hw he k d
  have hf := stack_at (k0_pay9 (F := Ideal) w e p)
    (fun i => (dens (kcol p d) i + dens (kcol p d) (i + 1)) / 2 * width i) d (fun k => cell_at p w e hw he k d) k
  generalize concatenate S32x64 0 (List.ofFn fun n : Fin 32 => (⟨S1x64, sumRow (k0_pay9 (F := Ideal) w e p) n⟩ : (s : Shape) × (s.Idx → Ideal .f32))) (rows_fit _) = A at hf
  generalize k0_pay17 (F := Ideal) (k0_pay3 e) (k0_pay7 w e p) (k0_pay8 w e p) = S at hs
  generalize k0_pay7 (F := Ideal) w e p = L at hl
  unfold k0_pay2 k0_pay4
  pointwise
  rw [hs, hl, hm, hf, ← EReal.coe_mul, ← EReal.coe_mul, ← EReal.coe_add, ← EReal.coe_mul, ← EReal.coe_sub]
  rfl

end

end Cert.KernelIdeal.KValue

end
-- ==== Proof.TableRun.lean ====
/- The first launch's three output arrays read at an element. -/
module

public import proofs.«01_k».proof.Proof.HostMesh
public import proofs.«01_k».proof.Proof.TableValue
public import Idealize.ShloMosaic.Lib.Pipeline.ValueKit

@[expose] public section

set_option maxRecDepth 16384

noncomputable section

namespace Cert.KernelIdeal.KValue

open Cert.KernelIdeal Cert.KernelIdeal.Gen Cert.QMap
open Idealize.ShloMosaic Idealize.ShloMosaic.TcCoe Idealize.ShloMosaic.Pointwise

variable (V : (c : Dev nD) → (b : Ref sig .tc) → Buf (Elt Ideal) ((c : Thread nD τ).loc b)) (c : Dev nD)

/-- The launch has one point, and every block starts at its array's origin. -/
theorem at_origin : ∀ t : Fin cfg0.N, ∀ a : Fin 2, win0_0.index t a = 0 ∧ win0_1.index t a = 0 ∧ win0_2.index t a = 0 ∧ win0_3.index t a = 0 := by
  decide +kernel

theorem block_params : iblk0 V c 0 t0_0 = V c main_arg1 := by
  funext j
  blk_ext! [iblk0, at_origin]

theorem block_halves : iblk0 V c 1 t0_0 = V c main_v53 := by
  funext j
  blk_ext! [iblk0, at_origin]

theorem block_widths : iblk0 V c 2 t0_0 = V c main_v54 := by
  funext j
  blk_ext! [iblk0, at_origin]

theorem block_lefts : iblk0 V c 3 t0_0 = V c main_v56 := by
  funext j
  blk_ext! [iblk0, at_origin]

/-- The first coefficients' array. -/
theorem final4 : (dat0 V c).arrAt 4 cfg0.N = out0_4 (F := Ideal) (V c main_arg1) (V c main_v53) (V c main_v54) (V c main_v56) := by
  refine (dat0 V c).arrAt_eq_of_after_last 4 t0_0 (by decide +kernel) _ fun j => ?_
  blk_simp
  rw [after0_4, ← block_params V c, ← block_halves V c, ← block_widths V c, ← block_lefts V c]

/-- The second coefficients' array. -/
theorem final5 : (dat0 V c).arrAt 5 cfg0.N = out0_5 (F := Ideal) (V c main_arg1) (V c main_v53) (V c main_v54) (V c main_v56) := by
  refine (dat0 V c).arrAt_eq_of_after_last 5 t0_0 (by decide +kernel) _ fun j => ?_
  blk_simp
  rw [after0_5, ← block_params V c, ← block_halves V c, ← block_widths V c, ← block_lefts V c]

/-- The third coefficients' array. -/
theorem final6 : (dat0 V c).arrAt 6 cfg0.N = out0_6 (F := Ideal) (V c main_arg1) (V c main_v53) (V c main_v54) (V c main_v56) := by
  refine (dat0 V c).arrAt_eq_of_after_last 6 t0_0 (by decide +kernel) _ fun j => ?_
  blk_simp
  rw [after0_6, ← block_params V c, ← block_halves V c, ← block_widths V c, ← block_lefts V c]

variable (m : (ℓ : Loc nD τ sig) → Buf (Elt Ideal) ℓ) (ρ : Dev nD → PrngReg)

/-- The parameters' array on a core. -/
abbrev params : Vec Ideal S31x64 .f32 := m ((c : Thread nD τ).loc main_arg1)

theorem params_in : (V3 m ρ c main_arg1 : Vec Ideal S31x64 .f32) = params c m := W3_args m ρ c main_arg1 (by decide)

theorem table0_at (k : Fin 32) (d : Fin 64) :
    W4 m ρ c (Proc.devRef .tc main_v57_0) (ix2 k d) = ((coef0 (dens (kcol (params c m) d)) k : ℝ) : EReal) := by
  refine (congrFun ((W4_arr m ρ c 4).trans (final4 (V3 m ρ) c)) (ix2 k d)).trans ?_
  refine (out4_at _ _ _ _ (host_half m ρ c) (host_width m ρ c) (host_left m ρ c) k d).trans ?_
  rw [params_in]

theorem table1_at (k : Fin 32) (d : Fin 64) :
    W4 m ρ c (Proc.devRef .tc main_v57_1) (ix2 k d) = ((coef1 (dens (kcol (params c m) d)) k : ℝ) : EReal) := by
  refine (congrFun ((W4_arr m ρ c 5).trans (final5 (V3 m ρ) c)) (ix2 k d)).trans ?_
  refine (out5_at _ _ _ _ (host_half m ρ c) (host_width m ρ c) (host_left m ρ c) k d).trans ?_
  rw [params_in]

theorem table2_at (k : Fin 32) (d : Fin 64) :
    W4 m ρ c (Proc.devRef .tc main_v57_2) (ix2 k d) = ((coef2 (dens (kcol (params c m) d)) k : ℝ) : EReal) := by
  refine (congrFun ((W4_arr m ρ c 6).trans (final6 (V3 m ρ) c)) (ix2 k d)).trans ?_
  refine (out6_at _ _ _ _ (host_half m ρ c) (host_width m ρ c) k d).trans ?_
  rw [params_in]

end Cert.KernelIdeal.KValue

end
-- ==== Proof.MapValue.lean ====
/- The map kernel's block read at an element: the stated map, once the three tables hold the cells' coefficients. -/
module

public import proofs.«01_k».proof.Proof.MapGather
public import proofs.«01_k».proof.Proof.Target
public import Idealize.ShloMosaic.PureOps.Ideal

@[expose] public section

set_option maxRecDepth 16384

noncomputable section

namespace Cert.KernelIdeal.KValue

open Cert.KernelIdeal Cert.KernelIdeal.Gen Cert.QMap
open Idealize.ShloMosaic Idealize.ShloMosaic.Pointwise

theorem named_ga : (Named.named κ "ga" 0x3FDFDA13#32 : Ideal .f32) = ((ga : ℝ) : EReal) := by
  refine (IdealRules.named_const.ideal_named_scalar _ _ _ _ rfl).trans ?_
  refine congrArg (fun y : ℝ => (y : EReal)) ?_
  norm_num [ga]

theorem named_inv_ln : (Named.named κ "inv_ln_r" 0x40AF839B#32 : Ideal .f32) = (((Real.log (6 / 5))⁻¹ : ℝ) : EReal) :=
  IdealRules.named_const.ideal_named_scalar _ _ _ _ rfl

theorem named_inv_2b : (Named.named κ "inv_2b" 0x3D4CCCCD#32 : Ideal .f32) = ((1 / 20 : ℝ) : EReal) :=
  IdealRules.named_const.ideal_named_scalar _ _ _ _ rfl

/-- The cell's number, as the kernel computes it at any input. -/
def cellE (u : EReal) : EReal :=
  if 0 ≤ u then
    ((16 : ℝ) : EReal) + Ideal.liftRound Int.floor (Ideal.log (1 + max u (-u) * ((ga : ℝ) : EReal)) * (((Real.log (6 / 5))⁻¹ : ℝ) : EReal))
  else
    ((15 : ℝ) : EReal) - Ideal.liftRound Int.floor (Ideal.log (1 + max u (-u) * ((ga : ℝ) : EReal)) * (((Real.log (6 / 5))⁻¹ : ℝ) : EReal))

theorem cellE_real (x : ℝ) : cellE (x : EReal) = (((cell x : ℤ) : ℝ) : EReal) := by
  have h : Ideal.liftRound Int.floor (Ideal.log (1 + max (x : EReal) (-(x : EReal)) * ((ga : ℝ) : EReal)) * (((Real.log (6 / 5))⁻¹ : ℝ) : EReal))
      = (((logFloor |x| : ℤ) : ℝ) : EReal) := by
    have hp : 0 < 1 + |x| * ga := by
      have := ga_pos
      have := abs_nonneg x
      positivity
    rw [abs_real, ← EReal.coe_mul, ← EReal.coe_one, ← EReal.coe_add, Ideal.log_coe, if_neg (not_le.2 hp), ← EReal.coe_mul,
      Ideal.liftRound_coe]
    rfl
  unfold cellE cell
  rw [h]
  by_cases h0 : 0 ≤ x
  · rw [if_pos (by exact_mod_cast h0), if_pos h0, ← EReal.coe_add]
    norm_num
  · rw [if_neg (by exact_mod_cast h0), if_neg h0, ← EReal.coe_sub]
    norm_num

theorem liftRound_top_log : Ideal.liftRound Int.floor (Ideal.log (1 + max (⊤ : EReal) (-⊤) * ((ga : ℝ) : EReal)) * (((Real.log (6 / 5))⁻¹ : ℝ) : EReal)) = ⊤ := by
  have hr : 0 < (Real.log (6 / 5 : ℝ))⁻¹ := inv_pos.2 (Real.log_pos (by norm_num))
  rw [show max (⊤ : EReal) (-⊤) = ⊤ from max_eq_left le_top, EReal.top_mul_coe_of_pos ga_pos, ← EReal.coe_one, EReal.coe_add_top,
    Ideal.log_top, EReal.top_mul_coe_of_pos hr, Ideal.liftRound_top]

theorem cellE_top : cellE ⊤ = ⊤ := by
  unfold cellE
  rw [if_pos le_top, liftRound_top_log, EReal.coe_add_top]

theorem cellE_bot : cellE ⊥ = ⊥ := by
  unfold cellE
  have h := liftRound_top_log
  rw [if_neg (by simp), show max (⊥ : EReal) (-⊥) = max (⊤ : EReal) (-⊤) by simp, h]
  rfl

variable (u : FVec Ideal S4096x128 .f32) (r : Fin 4096) (l : Fin 128)

theorem pay1_at : k1_pay1 (F := Ideal) u (ix2 r l) = u (ix2 r l) := by
  unfold k1_pay1
  pointwise

theorem pay2_at : k1_pay2 (F := Ideal) u (ix2 r l) = unit (u (ix2 r l)) := by
  unfold k1_pay2
  pointwise
  rw [lit_ten, named_inv_2b, pay1_at]
  exact unit_mul _

theorem pay3_at : k1_pay3 (F := Ideal) u (ix2 r l) = cellE (u (ix2 r l)) := by
  unfold k1_pay3
  pointwise
  rw [named_ga, named_inv_ln, lit_sixteen, lit_fifteen, pay1_at]
  rfl

theorem pay4_at : k1_pay4 (F := Ideal) u (ix2 r l) = IntOp.andi (BitVec.ofBool (decide ((0 : EReal) ≤ cellE (u (ix2 r l)))))
    (BitVec.ofBool (decide (cellE (u (ix2 r l)) ≤ ((31 : ℝ) : EReal)))) := by
  unfold k1_pay4
  pointwise
  rw [lit_thirty_one, pay3_at]

/-- The index word of a cell inside the interval. -/
theorem index_word (K : ℕ) (hK : K < 32) : Ideal.fptosi 32 (min ((31 : ℝ) : EReal) (max 0 (((K : ℝ)) : EReal))) = BitVec.ofNat 32 K := by
  have h0 : (0 : EReal) ≤ ((K : ℝ) : EReal) := by exact_mod_cast Nat.cast_nonneg (α := ℝ) K
  have h1 : ((K : ℝ) : EReal) ≤ ((31 : ℝ) : EReal) := by
    have : K ≤ 31 := by omega
    exact_mod_cast this
  rw [max_eq_right h0, min_eq_right h1, Ideal.fptosi, Ideal.toIntClamped_coe, if_pos (Nat.cast_nonneg K), Int.floor_natCast]
  rw [min_eq_right (by push_cast; omega), max_eq_right (by push_cast; omega)]
  rfl

theorem pay5_at (K : ℕ) (hK : K < 32) (h : cellE (u (ix2 r l)) = ((K : ℝ) : EReal)) :
    k1_pay5 (F := Ideal) u (ix2 r l) = BitVec.ofNat 32 K := by
  unfold k1_pay5
  pointwise
  rw [lit_thirty_one, pay3_at, h]
  exact index_word K hK

theorem pay7_at (K : ℕ) (hK : K < 32) (h : cellE (u (ix2 r l)) = ((K : ℝ) : EReal)) :
    k1_pay7 (F := Ideal) u (ix2 r l) = IntOp.shrsi .vector (BitVec.ofNat 32 K) 3#32 := by
  unfold k1_pay7
  pointwise
  rw [pay5_at u r l K hK h]

theorem pay6_at (K : ℕ) (hK : K < 32) (h : cellE (u (ix2 r l)) = ((K : ℝ) : EReal)) :
    k1_pay6 (F := Ideal) u (ix2 r l) = IntOp.andi (BitVec.ofNat 32 K) 7#32 := by
  unfold k1_pay6
  pointwise
  rw [pay5_at u r l K hK h]

/-! ### The polynomial and the step back, over arbitrary arrays -/

theorem poly_form (C : IVec S4096x128 1) (X A B D : FVec Ideal S4096x128 .f32) :
    select C (addf A (mulf X (addf B (mulf X D)))) X (ix2 r l)
    = Scalar.select (C (ix2 r l)) (A (ix2 r l) + X (ix2 r l) * (B (ix2 r l) + X (ix2 r l) * D (ix2 r l)) : EReal) (X (ix2 r l)) := by
  pointwise

theorem spread_at (Y : FVec Ideal S4096x128 .f32) : spread Y (ix2 r l) = back (Y (ix2 r l)) := by
  unfold spread
  pointwise
  rw [lit_ten, lit_neg_ten, lit_beta, lit_twenty]
  rfl

/-- The element's value on the unit interval, from tables of the cells' coefficients. -/
theorem poly_at (x1 x2 x3 : Vec Ideal S32x128 .f32) (q : Fin 31 → EReal)
    (h1 : ∀ k : Fin 32, x1 (ix2 k l) = ((coef0 (dens q) k : ℝ) : EReal))
    (h2 : ∀ k : Fin 32, x2 (ix2 k l) = ((coef1 (dens q) k : ℝ) : EReal))
    (h3 : ∀ k : Fin 32, x3 (ix2 k l) = ((coef2 (dens q) k : ℝ) : EReal)) :
    poly u x1 x2 x3 (ix2 r l) = onUnit q (u (ix2 r l)) := by
  refine (poly_form r l (k1_pay4 (F := Ideal) u) (k1_pay2 (F := Ideal) u) (lut x1 (k1_pay6 (F := Ideal) u) (k1_pay7 (F := Ideal) u)) (lut x2 (k1_pay6 (F := Ideal) u) (k1_pay7 (F := Ideal) u))
    (lut x3 (k1_pay6 (F := Ideal) u) (k1_pay7 (F := Ideal) u))).trans ?_
  rw [pay4_at, pay2_at]
  have hout : ∀ a b : Bool, (a && b) = false →
      ∀ s t : EReal, Scalar.select (IntOp.andi (BitVec.ofBool a) (BitVec.ofBool b)) s t = t := by
    intro a b hab s t
    cases a <;> cases b <;> first | rfl | simp at hab
  by_cases hin : ((-10 : ℝ) : EReal) < u (ix2 r l) ∧ u (ix2 r l) < ((10 : ℝ) : EReal)
  · obtain ⟨x, hx⟩ : ∃ x : ℝ, u (ix2 r l) = (x : EReal) := by
      generalize u (ix2 r l) = v at hin
      induction v using EReal.rec with
      | bot => simp at hin
      | top => simp at hin
      | coe x => exact ⟨x, rfl⟩
    rw [onUnit, if_pos hin]
    rw [hx] at hin ⊢
    obtain ⟨K, hK, hc, ha, hb⟩ := cell_inside (by exact_mod_cast hin.1) (by exact_mod_cast hin.2 : x < 10)
    have hcell : cellE (u (ix2 r l)) = ((K : ℝ) : EReal) := by rw [hx, cellE_real, hc, Int.cast_natCast]
    rw [lut_apply _ _ _ r l K hK (pay6_at u r l K hK hcell) (pay7_at u r l K hK hcell),
      lut_apply _ _ _ r l K hK (pay6_at u r l K hK hcell) (pay7_at u r l K hK hcell),
      lut_apply _ _ _ r l K hK (pay6_at u r l K hK hcell) (pay7_at u r l K hK hcell), h1, h2, h3, ← hx, hcell, hx]
    have d0 : (0 : EReal) ≤ ((K : ℝ) : EReal) := by exact_mod_cast Nat.cast_nonneg (α := ℝ) K
    have d1 : ((K : ℝ) : EReal) ≤ ((31 : ℝ) : EReal) := by
      have : K ≤ 31 := by omega
      exact_mod_cast this
    rw [decide_eq_true d0, decide_eq_true d1, EReal.toReal_coe, hc, Int.toNat_natCast, unit_real]
    refine Eq.trans (b := ((coef0 (dens q) K : ℝ) : EReal) + (((x + 10) / 20 : ℝ) : EReal)
      * (((coef1 (dens q) K : ℝ) : EReal) + (((x + 10) / 20 : ℝ) : EReal) * ((coef2 (dens q) K : ℝ) : EReal))) rfl ?_
    rw [← EReal.coe_mul, ← EReal.coe_add, ← EReal.coe_mul, ← EReal.coe_add, quad_coef]
  · rw [onUnit, if_neg hin]
    refine hout _ _ ?_ _ _
    rw [Bool.and_eq_false_iff, decide_eq_false_iff_not, decide_eq_false_iff_not]
    generalize u (ix2 r l) = v at hin
    induction v using EReal.rec with
    | bot => exact Or.inl (by rw [cellE_bot]; simp)
    | top => exact Or.inr (by rw [cellE_top]; simp)
    | coe x =>
      rw [cellE_real]
      have hx : x ≤ -10 ∨ 10 ≤ x := by
        by_contra hc
        rw [not_or, not_le, not_le] at hc
        exact hin ⟨by exact_mod_cast hc.1, by exact_mod_cast hc.2⟩
      refine (cell_outside hx).imp (fun h => ?_) fun h => ?_
      · rw [not_le]; exact_mod_cast h
      · rw [not_le]; exact_mod_cast h

/-- The map kernel's block read at an element. -/
theorem block_at (x0 : Vec Ideal S4096x128 .f32) (x1 x2 x3 : Vec Ideal S32x128 .f32) (q : Fin 31 → EReal)
    (h1 : ∀ k : Fin 32, x1 (ix2 k l) = ((coef0 (dens q) k : ℝ) : EReal))
    (h2 : ∀ k : Fin 32, x2 (ix2 k l) = ((coef1 (dens q) k : ℝ) : EReal))
    (h3 : ∀ k : Fin 32, x3 (ix2 k l) = ((coef2 (dens q) k : ℝ) : EReal)) :
    out1_4 x0 x1 x2 x3 (ix2 r l) = back (onUnit q (x0 (ix2 r l))) := by
  rw [out1_4_eq, spread_at, poly_at x0 r l x1 x2 x3 q h1 h2 h3]

end Cert.KernelIdeal.KValue

end
-- ==== Proof.MapRun.lean ====
/- The second launch's output array read at an element. -/
module

public import proofs.«01_k».proof.Proof.MapValue
public import Idealize.ShloMosaic.Lib.Pipeline.ValueKit

@[expose] public section

set_option maxRecDepth 16384

noncomputable section

namespace Cert.KernelIdeal.KValue

open Cert.KernelIdeal Cert.KernelIdeal.Gen Cert.QMap
open Idealize.ShloMosaic Idealize.ShloMosaic.TcCoe Idealize.ShloMosaic.Pointwise

variable (V : (c : Dev nD) → (b : Ref sig .tc) → Buf (Elt Ideal) ((c : Thread nD τ).loc b)) (c : Dev nD)

theorem map_index : ∀ t : Fin cfg1.N, win1_0.index t 0 = t.val ∧ win1_0.index t 1 = 0 ∧ win1_4.index t 0 = t.val ∧ win1_4.index t 1 = 0 := by
  decide +kernel

theorem table_index : ∀ t : Fin cfg1.N, ∀ a : Fin 2, win1_1.index t a = 0 ∧ win1_2.index t a = 0 ∧ win1_3.index t a = 0 := by
  decide +kernel

theorem block_zero (t : Fin cfg1.N) : iblk1 V c 1 t = V c main_v59 := by
  funext j
  blk_ext! [iblk1, table_index]

theorem block_one (t : Fin cfg1.N) : iblk1 V c 2 t = V c main_v60 := by
  funext j
  blk_ext! [iblk1, table_index]

theorem block_two (t : Fin cfg1.N) : iblk1 V c 3 t = V c main_v61 := by
  funext j
  blk_ext! [iblk1, table_index]

/-- The input's block at a point, against the output's place. -/
theorem block_rows (t : Fin cfg1.N) (y : S4096x128.Idx) : iblk1 V c 0 t y = V c main_v58 ((win1_4.blk t).view.emb y) := by
  blk_ext! [iblk1, map_index]

theorem lane_kept (t : Fin cfg1.N) (y : S4096x128.Idx) : (((win1_4.blk t).view.emb y : S131072x128.Idx) 1 : Fin 128) = y 1 := by
  apply Fin.ext
  blk_simp [map_index]

/-- The second launch's output array. -/
theorem map_final (q : Fin 128 → Fin 31 → EReal)
    (h1 : ∀ (k : Fin 32) (l : Fin 128), V c main_v59 (ix2 k l) = ((coef0 (dens (q l)) k : ℝ) : EReal))
    (h2 : ∀ (k : Fin 32) (l : Fin 128), V c main_v60 (ix2 k l) = ((coef1 (dens (q l)) k : ℝ) : EReal))
    (h3 : ∀ (k : Fin 32) (l : Fin 128), V c main_v61 (ix2 k l) = ((coef2 (dens (q l)) k : ℝ) : EReal)) :
    (dat1 V c).arrAt 4 cfg1.N = fun i : S131072x128.Idx => back (onUnit (q (i 1)) (V c main_v58 i)) := by
  refine (dat1 V c).arrAt_eq_of_covers 4 _ (by decide +kernel) fun t hf y => ?_
  blk_simp
  rw [after1_4, block_zero, block_one, block_two]
  have e := block_at (r := y 0) (l := y 1) (iblk1 V c 0 t) (V c main_v59) (V c main_v60) (V c main_v61) (q (y 1))
    (fun k => h1 k _) (fun k => h2 k _) (fun k => h3 k _)
  refine Eq.trans (congrArg _ (eq_ix2 y)) (e.trans ?_)
  refine congrArg back (congrArg₂ onUnit (congrArg q (lane_kept t y).symm) ?_)
  exact (congrArg (iblk1 V c 0 t) (eq_ix2 y).symm).trans (block_rows V c t y)

end Cert.KernelIdeal.KValue

end
-- ==== Proof.KernelValue.lean ====
/- The kernel's result read at an element. -/
module

public import proofs.«01_k».proof.Proof.TableRun
public import proofs.«01_k».proof.Proof.MapRun

@[expose] public section

set_option maxRecDepth 16384

noncomputable section

namespace Cert.KernelIdeal.KValue

open Cert.KernelIdeal Cert.KernelIdeal.Gen Cert.QMap
open Idealize.ShloMosaic Idealize.ShloMosaic.TcCoe Idealize.ShloMosaic.Pointwise

variable (V : Valuation τ sig (Elt Ideal))

/-- The column that a lane of the doubled row holds. -/
def narrow (l : Fin 128) : Fin 64 := ⟨l.val % 64, Nat.mod_lt _ (by norm_num)⟩

theorem narrow_low (l : Fin 128) (h : l.val < 64) : (⟨l.val, h⟩ : Fin 64) = narrow l := Fin.ext (Nat.mod_eq_of_lt h).symm

theorem narrow_high (l : Fin 128) (h : ¬ l.val < 64) : (⟨l.val - 64, by omega⟩ : Fin 64) = narrow l := Fin.ext (by
  show l.val - 64 = l.val % 64
  omega)

theorem wide_rows (r : Fin 131072) (l : Fin 128) : StableHlo.after (hostOps1 (F := Ideal)) V (Proc.devRef .tc main_v58) (ix2 r l)
    = V (Proc.devRef .tc main_arg0) (ix2 ⟨r.val * 2 + l.val / 64, by omega⟩ (narrow l)) := by
  after_reads_at
  rfl

theorem twice_zero (k : Fin 32) (l : Fin 128) : StableHlo.after (hostOps1 (F := Ideal)) V (Proc.devRef .tc main_v59) (ix2 k l)
    = V (Proc.devRef .tc main_v57_0) (ix2 k (narrow l)) := by
  after_reads_at
  by_cases h : l.val < 64
  · exact (dif_pos h).trans (congrArg _ (congrArg (ix2 k) (narrow_low l h)))
  · exact (dif_neg h).trans (congrArg _ (congrArg (ix2 k) (narrow_high l h)))

theorem twice_one (k : Fin 32) (l : Fin 128) : StableHlo.after (hostOps1 (F := Ideal)) V (Proc.devRef .tc main_v60) (ix2 k l)
    = V (Proc.devRef .tc main_v57_1) (ix2 k (narrow l)) := by
  after_reads_at
  by_cases h : l.val < 64
  · exact (dif_pos h).trans (congrArg _ (congrArg (ix2 k) (narrow_low l h)))
  · exact (dif_neg h).trans (congrArg _ (congrArg (ix2 k) (narrow_high l h)))

theorem twice_two (k : Fin 32) (l : Fin 128) : StableHlo.after (hostOps1 (F := Ideal)) V (Proc.devRef .tc main_v61) (ix2 k l)
    = V (Proc.devRef .tc main_v57_2) (ix2 k (narrow l)) := by
  after_reads_at
  by_cases h : l.val < 64
  · exact (dif_pos h).trans (congrArg _ (congrArg (ix2 k) (narrow_low l h)))
  · exact (dif_neg h).trans (congrArg _ (congrArg (ix2 k) (narrow_high l h)))

theorem narrow_rows (r : Fin 262144) (d : Fin 64) : StableHlo.after (hostOps2 (F := Ideal)) V (Proc.devRef .tc main_v63) (ix2 r d)
    = V (Proc.devRef .tc main_v62) (ix2 ⟨r.val / 2, by omega⟩ ⟨r.val % 2 * 64 + d.val, by omega⟩) := by
  after_reads_at

variable (m : (ℓ : Loc nD τ sig) → Buf (Elt Ideal) ℓ) (ρ : Dev nD → PrngReg) (c : Dev nD)

/-- The inputs' array on a core. -/
abbrev inputs : Vec Ideal S262144x64 .f32 := m ((c : Thread nD τ).loc main_arg0)

/-- The second launch's output array, over the arrays it is given. -/
theorem map_array : W6 m ρ c (Proc.devRef .tc main_v62) = fun i : S131072x128.Idx =>
    back (onUnit (kcol (params c m) (narrow (i 1))) (V5 m ρ c main_v58 i)) :=
  (W6_arr m ρ c 4).trans (map_final (V5 m ρ) c (fun l => kcol (params c m) (narrow l))
    (fun k l => (twice_zero (W4 m ρ c) k l).trans (table0_at c m ρ k (narrow l)))
    (fun k l => (twice_one (W4 m ρ c) k l).trans (table1_at c m ρ k (narrow l)))
    (fun k l => (twice_two (W4 m ρ c) k l).trans (table2_at c m ρ k (narrow l))))

/-- The kernel's result at an element. -/
theorem value_at (r : Fin 262144) (d : Fin 64) : W7 m ρ c (Proc.devRef .tc main_v63) (ix2 r d)
    = back (onUnit (kcol (params c m) d) (inputs m c (ix2 r d))) := by
  refine (narrow_rows (W6 m ρ c) r d).trans ((congrFun (map_array m ρ c) _).trans ?_)
  have hd : narrow ⟨r.val % 2 * 64 + d.val, by omega⟩ = d := Fin.ext (by
    show (r.val % 2 * 64 + d.val) % 64 = d.val
    omega)
  refine congrArg back (congrArg₂ onUnit (congrArg (kcol (params c m)) hd) ?_)
  refine (wide_rows (W4 m ρ c) _ _).trans ?_
  refine (congrFun (W4_args m ρ c main_arg0 (by decide)) _).trans (congrArg (inputs m c) ?_)
  refine congrArg₂ ix2 (Fin.ext ?_) hd
  show r.val / 2 * 2 + (r.val % 2 * 64 + d.val) / 64 = r.val
  omega

end Cert.KernelIdeal.KValue

end
-- ==== Proof.RefTables.lean ====
/- The reference's tables read at an index: the knots, the widths, and the density at the knots. -/
module

public import proofs.«01_k».proof.Proof.Gen.ReferenceIdeal.Run
public import proofs.«01_k».proof.Proof.Density
public import Idealize.ShloMosaic.Lib.Pointwise
public import Idealize.ShloMosaic.Lib.Tactic.CleanTypes
public import Idealize.ShloMosaic.PureOps.Ideal

@[expose] public section

set_option maxRecDepth 16384

noncomputable section

namespace Cert.ReferenceIdeal.RValue

open Cert.ReferenceIdeal Cert.ReferenceIdeal.Gen Cert.ReferenceIdeal.Value Cert.QMap
open Idealize.ShloMosaic Idealize.ShloMosaic.Pointwise

variable (V0 : Valuation τ sig (Elt Ideal))

theorem ratio : res_main_v2 V0 (ix2 0 0) = ((6 / 5 : ℝ) : EReal) := by
  unfold res_main_v2
  clean_types
  pointwise
  exact ratio_eq

theorem first_step : res_main_v11 V0 (ix2 0 0) = ((step : ℝ) : EReal) := by
  unfold res_main_v11
  clean_types
  pointwise
  rw [ratio]
  exact step_eq

theorem index (j : Fin 33) : res_main_v16 V0 (ix2 j 0) = ((j - 16 : ℝ) : EReal) := by
  unfold res_main_v16
  clean_types
  pointwise
  rw [lit_sixteen, EReal.coe_sub]
  refine congrArg (· - ((16 : ℝ) : EReal)) ?_
  have this := (by decide : ∀ j : Fin 33, (BitVec.ofNat 32 j.val).toInt = (j.val : ℤ)) j
  simp [FloatOps.sitofp, this]

theorem geometric (j : Fin 33) : res_main_v25 V0 (ix2 j 0) = Ideal.div (1 - Ideal.pow ((6 / 5 : ℝ) : EReal)
    (max ((j - 16 : ℝ) : EReal) (-((j - 16 : ℝ) : EReal)))) (1 - ((6 / 5 : ℝ) : EReal)) := by
  unfold res_main_v25
  clean_types
  pointwise
  rw [ratio, index]
  rfl

/-- The knots. -/
theorem mesh (j : Fin 33) : res_main_v43 V0 (ix2 j 0) = ((knot j : ℝ) : EReal) := by
  unfold res_main_v43
  clean_types
  pointwise
  by_cases h0 : (j : ℕ) < 1
  · refine (if_pos h0).trans ?_
    rw [show (j : ℕ) = 0 by omega, knot_zero]
    rfl
  refine (if_neg h0).trans ?_
  by_cases h1 : (j : ℕ) - 1 < 31
  · refine (dif_pos h1).trans ?_
    have hj : (⟨1 + (j.val - 1), by omega⟩ : Fin 33) = j := Fin.ext (by simp; omega)
    simp only [hj]
    simp only [first_step, geometric, index]
    exact mesh_formula j _ rfl
  · refine (dif_neg h1).trans ?_
    rw [show (j : ℕ) = 32 by omega, knot_top]
    rfl

/-- The widths. -/
theorem elmt (j : Fin 32) : res_main_v46 V0 (ix2 j 0) = ((width j : ℝ) : EReal) := by
  unfold res_main_v46
  clean_types
  pointwise
  rw [mesh, mesh, ← EReal.coe_sub]
  simp only [width, Nat.add_comm 1]

/-- A column of the second argument. -/
def col (d : Fin 64) : Fin 31 → EReal := fun i => V0 (Proc.devRef .tc main_arg1) (ix2 i d)

theorem expo (i : Fin 31) (d : Fin 64) : res_main_v50 V0 (ix2 i d) = Ideal.exp (col V0 d i) := by
  unfold res_main_v50
  clean_types
  pointwise
  rfl

theorem edge (d : Fin 64) (i : Fin 1): res_main_v49 V0 (ix2 i d) = ((beta : ℝ) : EReal) := by
  unfold res_main_v49
  clean_types
  pointwise
  rw [lit_beta]
  try simp

/-- The density at the knots. -/
theorem pdf (k : Fin 33) (d : Fin 64) : res_main_v76 V0 (ix2 k d) = ((dens (col V0 d) k : ℝ) : EReal) := by
  unfold res_main_v76
  clean_types
  pointwise
  rw [← dens_coe]
  simp only [edge]
  refine if_congr Iff.rfl rfl ?_
  refine dite_congr rfl (fun h => ?_) (fun _ => rfl)
  rw [mul_comm]
  simp only [expo, elmt]
  rw [QMap.inner, den]
  refine congrArg₂ (fun a b => _ * Ideal.div a b) ?_ (Finset.sum_congr rfl fun x _ => ?_)
  · rw [lit_beta, lit_two, ← EReal.coe_add, ← EReal.coe_mul, div_real _ (by norm_num), ← EReal.coe_one, ← EReal.coe_sub]
    rfl
  · rw [lit_two, ← EReal.coe_add, half_mul, half, Nat.add_comm 1]

end Cert.ReferenceIdeal.RValue

end
-- ==== Proof.RefOps.lean ====
/- The reference's look-ups, its count of the knots, and its running sum, each read at an element. -/
module

public import proofs.«01_k».proof.Proof.RefTables
public import Idealize.ShloMosaic.Lib.ValueIdxCore
public import Idealize.ShloMosaic.Lib.Pointwise.IndexBridge

@[expose] public section

set_option maxRecDepth 16384

noncomputable section

namespace Cert.ReferenceIdeal.RValue

open Cert.ReferenceIdeal Cert.ReferenceIdeal.Gen Cert.ReferenceIdeal.Value Cert.QMap
open Idealize.ShloMosaic Idealize.ShloMosaic.Pointwise

variable {α : Type}

theorem takeIdx_eq (r : Fin 262144) (l : Fin 64) : (ValueIdx.takeIdx (ix2 r l : S262144x64.Idx)) = (ix3 r l 0 : S262144x64x1.Idx) := by
  funext a
  match a with
  | ⟨0, _⟩ => rfl
  | ⟨1, _⟩ => rfl
  | ⟨2, _⟩ => rfl

/-- A small word read as a natural number. -/
theorem word_toNat {n N : ℕ} (hn : n < N) (hN : N ≤ 2 ^ 31) : min (BitVec.ofNat 32 n).toInt.toNat (N - 1) = n := by
  rw [BitVec.toInt_eq_toNat_of_lt (by simp; omega)]
  simp
  omega

/-- The look-up in the rows of a 33-row table, each lane in its own column. -/
theorem rows33 (x : S33x64.Idx → α) (idx : IVec S262144x64x1 32) (r : Fin 262144) (l : Fin 64) (n : ℕ) (hn : n < 33)
    (h : idx (ix3 r l 0) = BitVec.ofNat 32 n) :
    Host.gather gather_S33x64_S262144x64x1_S262144x64_n_0_1_1_0_2_11 x idx (ix2 r l) = x (ix2 ⟨n, hn⟩ l) := by
  refine (ValueIdx.gather_take_rows_apply (by norm_num) gather_S33x64_S262144x64x1_S262144x64_n_0_1_1_0_2_11_wf x idx (ix2 r l)).trans ?_
  rw [ix2_eq_valueIdx]
  refine congrArg x (congrArg₂ ValueIdx.ix2 (Fin.ext ?_) (Fin.ext rfl))
  show min (idx (ValueIdx.takeIdx (ix2 r l))).toInt.toNat (33 - 1) = n
  rw [takeIdx_eq, h, word_toNat hn (by norm_num)]

/-- The same in a table of 32 rows. -/
theorem rows32 (x : S32x64.Idx → α) (idx : IVec S262144x64x1 32) (r : Fin 262144) (l : Fin 64) (n : ℕ) (hn : n < 32)
    (h : idx (ix3 r l 0) = BitVec.ofNat 32 n) :
    Host.gather gather_S32x64_S262144x64x1_S262144x64_n_0_1_1_0_2_11 x idx (ix2 r l) = x (ix2 ⟨n, hn⟩ l) := by
  refine (ValueIdx.gather_take_rows_apply (by norm_num) gather_S32x64_S262144x64x1_S262144x64_n_0_1_1_0_2_11_wf x idx (ix2 r l)).trans ?_
  rw [ix2_eq_valueIdx]
  refine congrArg x (congrArg₂ ValueIdx.ix2 (Fin.ext ?_) (Fin.ext rfl))
  show min (idx (ValueIdx.takeIdx (ix2 r l))).toInt.toNat (32 - 1) = n
  rw [takeIdx_eq, h, word_toNat hn (by norm_num)]

/-- The look-up in a list of 33 entries. -/
theorem list33 (x : S33.Idx → α) (idx : IVec S262144x64x1 32) (r : Fin 262144) (l : Fin 64) (n : ℕ) (hn : n < 33)
    (h : idx (ix3 r l 0) = BitVec.ofNat 32 n) :
    Host.gather gather_S33_S262144x64x1_S262144x64_n_0_n_n_0_2_1 x idx (ix2 r l) = x (ix1 ⟨n, hn⟩) := by
  refine (ValueIdx.gather_take_apply (by norm_num) gather_S33_S262144x64x1_S262144x64_n_0_n_n_0_2_1_wf x idx (ix2 r l)).trans ?_
  rw [ix1_eq_valueIdx]
  refine congrArg x (congrArg ValueIdx.ix1 (Fin.ext ?_))
  show min (idx (ValueIdx.takeIdx (ix2 r l))).toInt.toNat (33 - 1) = n
  rw [takeIdx_eq, h, word_toNat hn (by norm_num)]

/-- The look-up in a list of 32 entries. -/
theorem list32 (x : S32.Idx → α) (idx : IVec S262144x64x1 32) (r : Fin 262144) (l : Fin 64) (n : ℕ) (hn : n < 32)
    (h : idx (ix3 r l 0) = BitVec.ofNat 32 n) :
    Host.gather gather_S32_S262144x64x1_S262144x64_n_0_n_n_0_2_1 x idx (ix2 r l) = x (ix1 ⟨n, hn⟩) := by
  refine (ValueIdx.gather_take_apply (by norm_num) gather_S32_S262144x64x1_S262144x64_n_0_n_n_0_2_1_wf x idx (ix2 r l)).trans ?_
  rw [ix1_eq_valueIdx]
  refine congrArg x (congrArg ValueIdx.ix1 (Fin.ext ?_))
  show min (idx (ValueIdx.takeIdx (ix2 r l))).toInt.toNat (32 - 1) = n
  rw [takeIdx_eq, h, word_toNat hn (by norm_num)]

/-- The word that counts the indices with a property. -/
theorem fold_count {ι : Type} [DecidableEq ι] (s : Finset ι) (P : ι → Prop) [DecidablePred P] :
    Finset.fold IntOp.addi 0#32 (fun x => BitVec.setWidth 32 (BitVec.ofBool (decide (P x)))) s
      = BitVec.ofNat 32 (s.filter P).card := by
  induction s using Finset.induction_on with
  | empty => rfl
  | insert a s ha ih =>
    rw [Finset.fold_insert ha, ih, Finset.filter_insert]
    by_cases hp : P a
    · rw [if_pos hp, Finset.card_insert_of_notMem (by simp [ha])]
      simp only [hp, decide_true]
      show BitVec.setWidth 32 (BitVec.ofBool true) + BitVec.ofNat 32 _ = _
      rw [Nat.add_comm, BitVec.ofNat_add]
      rfl
    · rw [if_neg hp]
      simp only [hp, decide_false]
      show BitVec.setWidth 32 (BitVec.ofBool false) + BitVec.ofNat 32 _ = _
      exact BitVec.zero_add _

/-- A left sum of real numbers is real. -/
theorem foldl_real {ι : Type} (L : List ι) (G : ι → EReal) (g : ι → ℝ) (h : ∀ n, G n = ((g n : ℝ) : EReal)) (a : ℝ) :
    L.foldl (fun r n => r + G n) (a : EReal) = ((a + (L.map g).sum : ℝ) : EReal) := by
  induction L generalizing a with
  | nil => simp
  | cons n L ih =>
    rw [List.foldl_cons, h, ← EReal.coe_add, ih, List.map_cons, List.sum_cons, add_assoc]

/-- The window's terms that meet the table, summed. -/
theorem window_sum (f : ℕ → ℝ) (j : ℕ) (hj : j < 32) :
    ∑ n ∈ Finset.range 32, (if 31 ≤ j + n then f (j + n - 31) else 0) = ∑ i ∈ Finset.range (j + 1), f i := by
  rw [show 32 = (31 - j) + (j + 1) by omega, Finset.sum_range_add,
    Finset.sum_eq_zero (fun n hn => if_neg (by rw [Finset.mem_range] at hn; omega)), zero_add]
  refine Finset.sum_congr rfl fun i _ => ?_
  rw [if_pos (by omega)]
  congr 1
  omega

theorem window_index : ∀ n : Fin (⟨2, ![32, 1]⟩ : Shape).numel,
    ((⟨2, ![32, 1]⟩ : Shape).rowMajor.symm n 0).val = n.val ∧ ((⟨2, ![32, 1]⟩ : Shape).rowMajor.symm n 1).val = 0 := by
  decide +kernel

/-- The running sum down the rows of a real table. -/
theorem running (x : FVec Ideal S32x64 .f32) (init : FVec Ideal S_ .f32) (hi : init ix0 = 0) (l : Fin 64) (f : ℕ → ℝ)
    (hx : ∀ i : Fin 32, x (ix2 i l) = ((f i : ℝ) : EReal)) (j : Fin 32) :
    Host.reduceWindowAdd (F := Ideal) ![32, 1] ![1, 1] ![31, 0] ![0, 0] x init reduceWindows_S32x64_S32x64_w32s1p31_0_w1s1p0_0 h_S_ (ix2 j l)
      = ((∑ i ∈ Finset.range (j + 1), f i : ℝ) : EReal) := by
  have hj := j.isLt
  have hv : init (Shape.Idx.first h_S_) = ((0 : ℝ) : EReal) := (congrArg init (funext fun a => a.elim0)).trans hi
  show Host.reduceWindow (fun a b : EReal => a + b) ![32, 1] ![1, 1] ![31, 0] ![0, 0] x (fun _ : S_.Idx => init (Shape.Idx.first h_S_))
    reduceWindows_S32x64_S32x64_w32s1p31_0_w1s1p0_0 h_S_ (ix2 j l) = _
  unfold Host.reduceWindow
  simp only [hv]
  refine (foldl_real _ _ (fun n => if 31 ≤ j.val + n.val then f (j.val + n.val - 31) else 0) (fun n => ?_) 0).trans ?_
  · obtain ⟨hw0, hw1⟩ := window_index n
    have hn : n.val < 32 := n.isLt
    split
    · next hin =>
      have h0 := hin 0
      change 31 ≤ j.val * 1 + ((⟨2, ![32, 1]⟩ : Shape).rowMajor.symm n 0).val
        ∧ j.val * 1 + ((⟨2, ![32, 1]⟩ : Shape).rowMajor.symm n 0).val - 31 < 32 at h0
      rw [hw0] at h0
      rw [if_pos (by omega)]
      refine (congrArg x (funext fun a => Fin.ext ?_)).trans (hx ⟨j.val + n.val - 31, by omega⟩)
      match a with
      | ⟨0, _⟩ =>
        show j.val * 1 + ((⟨2, ![32, 1]⟩ : Shape).rowMajor.symm n 0).val - 31 = j.val + n.val - 31
        rw [hw0, Nat.mul_one]
      | ⟨1, _⟩ =>
        show l.val * 1 + ((⟨2, ![32, 1]⟩ : Shape).rowMajor.symm n 1).val - 0 = l.val
        rw [hw1]
        omega
    · next hin =>
      rw [if_neg fun hle => hin fun a => by
        match a with
        | ⟨0, _⟩ =>
          show 31 ≤ j.val * 1 + ((⟨2, ![32, 1]⟩ : Shape).rowMajor.symm n 0).val
            ∧ j.val * 1 + ((⟨2, ![32, 1]⟩ : Shape).rowMajor.symm n 0).val - 31 < 32
          rw [hw0]
          omega
        | ⟨1, _⟩ =>
          show 0 ≤ l.val * 1 + ((⟨2, ![32, 1]⟩ : Shape).rowMajor.symm n 1).val
            ∧ l.val * 1 + ((⟨2, ![32, 1]⟩ : Shape).rowMajor.symm n 1).val - 0 < 64
          rw [hw1]
          have := l.isLt
          omega]
  · rw [zero_add, ← window_sum f j hj, Finset.sum_range]
    exact congrArg _ (Fin.sum_univ_def (n := 32) _).symm

end Cert.ReferenceIdeal.RValue

end
-- ==== Proof.RefValue.lean ====
/- The reference's result read at an element. -/
module

public import proofs.«01_k».proof.Proof.RefOps
public import proofs.«01_k».proof.Proof.Target
public import Idealize.ShloMosaic.Lib.Tactic.WordOmega

@[expose] public section

set_option maxRecDepth 16384

noncomputable section

namespace Cert.ReferenceIdeal.RValue

open Cert.ReferenceIdeal Cert.ReferenceIdeal.Gen Cert.ReferenceIdeal.Value Cert.QMap
open Idealize.ShloMosaic Idealize.ShloMosaic.Pointwise

variable (V0 : Valuation τ sig (Elt Ideal))

/-- An element of the first argument. -/
def inp (r : Fin 262144) (l : Fin 64) : EReal := V0 (Proc.devRef .tc main_arg0) (ix2 r l)

theorem unit_at (r : Fin 262144) (l : Fin 64) : res_main_v93 V0 (ix2 r l) = unit (inp V0 r l) := by
  unfold res_main_v93
  clean_types
  pointwise
  rw [lit_ten, lit_two]
  rfl

theorem mesh_list (j : Fin 33) : res_main_v94 V0 (ix1 j) = ((knot j : ℝ) : EReal) := by
  unfold res_main_v94
  clean_types
  pointwise
  exact mesh V0 j

/-- The count of the knots at or below the element, less one. -/
theorem count_at (r : Fin 262144) (l : Fin 64) : res_main_v103 V0 (ix2 r l) =
    BitVec.ofNat 32 (Finset.univ.filter fun j : Fin 33 => ((knot j : ℝ) : EReal) ≤ unit (inp V0 r l)).card - 1#32 := by
  unfold res_main_v103
  clean_types
  pointwise
  refine congrArg (· - 1#32) ((Finset.fold_congr fun x _ => ?_).trans
    (fold_count Finset.univ fun j : Fin 33 => ((knot j : ℝ) : EReal) ≤ unit (inp V0 r l)))
  refine congrArg (fun b => BitVec.setWidth 32 (BitVec.ofBool b)) (Bool.decide_congr ?_)
  exact (mesh_list V0 x).symm ▸ (unit_at V0 r l).symm ▸ Iff.rfl

theorem clamp_at (r : Fin 262144) (l : Fin 64) : res_main_v112 V0 (ix2 r l) =
    IntOp.minsi 31#32 (IntOp.maxsi 0#32 (res_main_v103 V0 (ix2 r l))) := by
  unfold res_main_v112
  clean_types
  pointwise
  rfl

theorem next_at (r : Fin 262144) (l : Fin 64) : res_main_v115 V0 (ix2 r l) = IntOp.addi (res_main_v112 V0 (ix2 r l)) 1#32 := by
  unfold res_main_v115
  clean_types
  pointwise

/-- An index word that is not negative is left as it is. -/
theorem wrap (n : ℕ) (hn : n < 2 ^ 31) (c : BitVec 32) :
    Scalar.select (IntOp.cmpi .slt (BitVec.ofNat 32 n) 0#32) (IntOp.addi (BitVec.ofNat 32 n) c) (BitVec.ofNat 32 n) = BitVec.ofNat 32 n := by
  word_omega

theorem mesh_at (r : Fin 262144) (l : Fin 64) (n : ℕ) (hn : n < 32) (h : res_main_v112 V0 (ix2 r l) = BitVec.ofNat 32 n) :
    res_main_v124 V0 (ix2 r l) = unit (inp V0 r l) - ((knot n : ℝ) : EReal) := by
  unfold res_main_v124
  clean_types
  pointwise
  rw [list33 _ _ r l n (by omega) (by pointwise; rw [h]; exact wrap n (by omega) _), mesh_list, unit_at]

theorem left_at (r : Fin 262144) (l : Fin 64) (n : ℕ) (hn : n < 32) (h : res_main_v112 V0 (ix2 r l) = BitVec.ofNat 32 n) :
    res_main_v113 V0 (ix2 r l) = ((dens (col V0 l) n : ℝ) : EReal) := by
  unfold res_main_v113
  clean_types
  pointwise
  rw [rows33 _ _ r l n (by omega) (by pointwise; rw [h]; exact wrap n (by omega) _), pdf]

/-! ### The cell that the count finds -/

theorem card_le : ∀ k : Fin 32, (Finset.univ.filter fun j : Fin 33 => j.val ≤ k.val).card = k.val + 1 := by decide

theorem knot_le_iff (j : ℕ) (x : ℝ) : ((knot j : ℝ) : EReal) ≤ unit (x : EReal) ↔ knotU j ≤ x := by
  rw [unit_real, EReal.coe_le_coe_iff, knot]
  constructor <;> intro h <;> linarith

/-- Inside the interval the count's word is the cell's number. -/
theorem count_inside (r : Fin 262144) (l : Fin 64) (x : ℝ) (hu : inp V0 r l = (x : EReal)) (k : ℕ) (hk : k < 32)
    (h1 : knotU k ≤ x) (h2 : x < knotU (k + 1)) : res_main_v103 V0 (ix2 r l) = BitVec.ofNat 32 k := by
  rw [count_at, hu]
  simp only [knot_le_iff]
  have : (Finset.univ.filter fun j : Fin 33 => knotU j ≤ x) = Finset.univ.filter fun j : Fin 33 => j.val ≤ k := by
    refine Finset.filter_congr fun j _ => ⟨fun h => ?_, fun h => (knotU_strictMono.monotone h).trans h1⟩
    exact Nat.lt_succ_iff.1 (knotU_strictMono.lt_iff_lt.1 (h.trans_lt h2))
  rw [this, card_le ⟨k, hk⟩, BitVec.ofNat_add]
  exact BitVec.add_sub_cancel _ _

/-- Below the interval the word is minus one. -/
theorem count_below (r : Fin 262144) (l : Fin 64) (hu : inp V0 r l < ((-10 : ℝ) : EReal)) :
    res_main_v103 V0 (ix2 r l) = -1#32 := by
  rw [count_at, Finset.filter_false_of_mem]
  · rfl
  · intro j _
    generalize inp V0 r l = u at hu
    induction u with
    | bot => rw [unit_bot]; simp
    | top => simp at hu
    | coe x =>
      have hx : x < -10 := by exact_mod_cast hu
      rw [knot_le_iff, not_le]
      have := knotU_strictMono.monotone (Nat.zero_le j.val)
      rw [knotU_zero] at this
      linarith

/-- From the upper end on the word is 32. -/
theorem count_above (r : Fin 262144) (l : Fin 64) (hu : ((10 : ℝ) : EReal) ≤ inp V0 r l) :
    res_main_v103 V0 (ix2 r l) = 32#32 := by
  rw [count_at, Finset.filter_true_of_mem]
  · rfl
  · intro j _
    generalize inp V0 r l = u at hu
    induction u with
    | bot => simp at hu
    | top => rw [unit_top]; exact le_top
    | coe x =>
      have hx : 10 ≤ x := by exact_mod_cast hu
      rw [knot_le_iff]
      have := knotU_strictMono.monotone (show j.val ≤ 32 by omega)
      rw [knotU_top] at this
      linarith

/-! ### The value -/

/-- The areas of the cells. -/
def cellTable : FVec Ideal S32x64 .f32 :=
  mulf (Host.divf (addf (extractStridedSlice S32x64 ![0, 0] (res_main_v76 V0) slices_S33x64_S32x64_0_0)
    (extractStridedSlice S32x64 ![1, 0] (res_main_v76 V0) slices_S33x64_S32x64_1_0))
    (broadcastInDim S32x64 ![] bcast_S_S32x64 (constant S_ .f32 0x40000000#32)))
    (broadcastInDim S32x64 ![0, 1] bcast_S32x1_S32x64_0_1 (res_main_v46 V0))

/-- Their running sums. -/
def sumTable : FVec Ideal S32x64 .f32 :=
  Host.reduceWindowAdd ![32, 1] ![1, 1] ![31, 0] ![0, 0] (cellTable V0)
    (broadcastInDim S_ ![] bcast_S_S_ (constant S_ .f32 0x00000000#32)) reduceWindows_S32x64_S32x64_w32s1p31_0_w1s1p0_0 h_S_

/-- The map's values at the knots. -/
def areaTable : FVec Ideal S32x64 .f32 :=
  concatenate S32x64 0 [⟨S1x64, (broadcastInDim S1x64 ![] bcast_S_S1x64 (constant S_ .f32 0x00000000#32))⟩,
    ⟨S31x64, (extractStridedSlice S31x64 ![0, 0] (sumTable V0) slices_S32x64_S31x64_0_0)⟩] concatenates_S1x64_S31x64_S32x64_d0

theorem cellTable_at (i : Fin 32) (l : Fin 64) :
    cellTable V0 (ix2 i l) = (((dens (col V0 l) i + dens (col V0 l) (i + 1)) / 2 * width i : ℝ) : EReal) := by
  unfold cellTable
  pointwise
  rw [pdf, pdf, elmt, lit_two, ← EReal.coe_add, div_real _ (by norm_num), ← EReal.coe_mul]
  simp only [Nat.add_comm 1]

theorem sumTable_at (i : Fin 32) (l : Fin 64) :
    sumTable V0 (ix2 i l) = ((area (dens (col V0 l)) (i + 1) : ℝ) : EReal) :=
  running (cellTable V0) _ (by pointwise) l _ (fun i => cellTable_at V0 i l) i

theorem areaTable_at (k : Fin 32) (l : Fin 64) :
    areaTable V0 (ix2 k l) = ((area (dens (col V0 l)) k : ℝ) : EReal) := by
  unfold areaTable
  pointwise
  by_cases h : (k : ℕ) < 1
  · refine (dif_pos h).trans ?_
    rw [show (k : ℕ) = 0 by omega]
    simp [area]
  · refine (dif_neg h).trans ((sumTable_at V0 _ l).trans ?_)
    show ((area _ (k.val - 1 + 1) : ℝ) : EReal) = _
    rw [show k.val - 1 + 1 = k by omega]

/-- The map's value at the left knot of each element's cell. -/
def areas : FVec Ideal S262144x64 .f32 :=
  Host.gather gather_S32x64_S262144x64x1_S262144x64_n_0_1_1_0_2_11 (areaTable V0) (shapeCast _ (select (cmpi .slt (res_main_v112 V0) (broadcastInDim S262144x64 ![] bcast_S_S262144x64 (constantI S_ 32 0#32))) (addi (res_main_v112 V0) (broadcastInDim S262144x64 ![] bcast_S_S262144x64 (constantI S_ 32 32#32))) (res_main_v112 V0)) shapeCasts_S262144x64_S262144x64x1)

/-- The density at the right knot. -/
def rights : FVec Ideal S262144x64 .f32 :=
  Host.gather gather_S33x64_S262144x64x1_S262144x64_n_0_1_1_0_2_11 (res_main_v76 V0) (shapeCast _ (select (cmpi .slt (res_main_v115 V0) (broadcastInDim S262144x64 ![] bcast_S_S262144x64 (constantI S_ 32 0#32))) (addi (res_main_v115 V0) (broadcastInDim S262144x64 ![] bcast_S_S262144x64 (constantI S_ 32 33#32))) (res_main_v115 V0)) shapeCasts_S262144x64_S262144x64x1)

/-- The cell's width. -/
def widths : FVec Ideal S262144x64 .f32 :=
  Host.gather gather_S32_S262144x64x1_S262144x64_n_0_n_n_0_2_1 (shapeCast _ (res_main_v46 V0) shapeCasts_S32x1_S32) (broadcastInDim S262144x64x1 ![0, 1] bcast_S262144x64_S262144x64x1_0_1 (select (cmpi .slt (res_main_v112 V0) (broadcastInDim S262144x64 ![] bcast_S_S262144x64 (constantI S_ 32 0#32))) (addi (res_main_v112 V0) (broadcastInDim S262144x64 ![] bcast_S_S262144x64 (constantI S_ 32 32#32))) (res_main_v112 V0)))

/-- The quadratic of each element's cell. -/
def curve : FVec Ideal S262144x64 .f32 :=
  addf (addf (areas V0) (Host.divf (mulf (Host.divf (mulf (res_main_v124 V0) (res_main_v124 V0)) (broadcastInDim S262144x64 ![] bcast_S_S262144x64 (constant S_ .f32 0x40000000#32))) (subf (rights V0) (res_main_v113 V0))) (widths V0))) (mulf (res_main_v124 V0) (res_main_v113 V0))

/-- One where a cell covers the element, zero elsewhere. -/
def covers : FVec Ideal S262144x64 .f32 :=
  select (cmpi .sle (muli (res_main_v103 V0) (addi (subi (res_main_v103 V0) (broadcastInDim S262144x64 ![] bcast_S_S262144x64 (constantI S_ 32 32#32))) (broadcastInDim S262144x64 ![] bcast_S_S262144x64 (constantI S_ 32 1#32)))) (broadcastInDim S262144x64 ![] bcast_S_S262144x64 (constantI S_ 32 0#32))) (broadcastInDim S262144x64 ![] bcast_S_S262144x64 (constant S_ .f32 0x3F800000#32)) (broadcastInDim S262144x64 ![] bcast_S_S262144x64 (constant S_ .f32 0x00000000#32))

/-- The choice between the quadratic and the element itself. -/
def chosen : FVec Ideal S262144x64 .f32 :=
  select (cmpf .ogt (covers V0) (broadcastInDim S262144x64 ![] bcast_S_S262144x64 (constant S_ .f32 0x00000000#32))) (curve V0) (res_main_v93 V0)

theorem scaled : res_main_v151 V0 = subf (mulf (mulf (chosen V0) (broadcastInDim S262144x64 ![] bcast_S_S262144x64 (constant S_ .f32 0x40000000#32)))
    (broadcastInDim S262144x64 ![] bcast_S_S262144x64 (constant S_ .f32 0x41200000#32))) (broadcastInDim S262144x64 ![] bcast_S_S262144x64 (constant S_ .f32 0x41200000#32)) := rfl

theorem areas_at (r : Fin 262144) (l : Fin 64) (n : ℕ) (hn : n < 32) (h : res_main_v112 V0 (ix2 r l) = BitVec.ofNat 32 n) :
    areas V0 (ix2 r l) = ((area (dens (col V0 l)) n : ℝ) : EReal) := by
  unfold areas
  rw [rows32 _ _ r l n hn (by pointwise; rw [h]; exact wrap n (by omega) _), areaTable_at]

theorem rights_at (r : Fin 262144) (l : Fin 64) (n : ℕ) (hn : n < 32) (h : res_main_v112 V0 (ix2 r l) = BitVec.ofNat 32 n) :
    rights V0 (ix2 r l) = ((dens (col V0 l) (n + 1) : ℝ) : EReal) := by
  have h' : res_main_v115 V0 (ix2 r l) = BitVec.ofNat 32 (n + 1) := by
    rw [next_at, h, BitVec.ofNat_add]
    rfl
  unfold rights
  rw [rows33 _ _ r l (n + 1) (by omega) (by pointwise; rw [h']; exact wrap (n + 1) (by omega) _), pdf]

theorem widths_at (r : Fin 262144) (l : Fin 64) (n : ℕ) (hn : n < 32) (h : res_main_v112 V0 (ix2 r l) = BitVec.ofNat 32 n) :
    widths V0 (ix2 r l) = ((width n : ℝ) : EReal) := by
  unfold widths
  rw [list32 _ _ r l n hn (by pointwise; rw [h]; exact wrap n (by omega) _)]
  clean_types
  pointwise
  exact elmt V0 ⟨n, hn⟩

theorem covers_at (r : Fin 262144) (l : Fin 64) : covers V0 (ix2 r l) = Scalar.select (IntOp.cmpi .sle
    (IntOp.muli (res_main_v103 V0 (ix2 r l)) (IntOp.addi (IntOp.subi (res_main_v103 V0 (ix2 r l)) 32#32) 1#32)) 0#32) 1 0 := by
  unfold covers
  clean_types
  pointwise

end Cert.ReferenceIdeal.RValue

end
-- ==== Proof.RefResult.lean ====
/- The reference's result read at an element: the stated map. -/
module

public import proofs.«01_k».proof.Proof.RefValue

@[expose] public section

set_option maxRecDepth 16384

noncomputable section

namespace Cert.ReferenceIdeal.RValue

open Cert.ReferenceIdeal Cert.ReferenceIdeal.Gen Cert.ReferenceIdeal.Value Cert.QMap
open Idealize.ShloMosaic Idealize.ShloMosaic.Pointwise

variable (V0 : Valuation τ sig (Elt Ideal))

theorem covers_inside : ∀ k : Fin 32, IntOp.cmpi .sle
    (IntOp.muli (BitVec.ofNat 32 k.val) (IntOp.addi (IntOp.subi (BitVec.ofNat 32 k.val) 32#32) 1#32)) 0#32 = 1#1 := by decide

theorem clamp_inside : ∀ k : Fin 32, IntOp.minsi 31#32 (IntOp.maxsi 0#32 (BitVec.ofNat 32 k.val)) = BitVec.ofNat 32 k.val := by decide

/-! ### The steps over arbitrary arrays -/

theorem curve_form (A D L R W : FVec Ideal S262144x64 .f32) (r : Fin 262144) (l : Fin 64) :
    addf (addf A (Host.divf (mulf (Host.divf (mulf D D) (broadcastInDim S262144x64 ![] bcast_S_S262144x64 (constant S_ .f32 0x40000000#32))) (subf R L)) W)) (mulf D L) (ix2 r l)
    = A (ix2 r l) + Ideal.div (Ideal.div (D (ix2 r l) * D (ix2 r l)) ((2 : ℝ) : EReal) * (R (ix2 r l) - L (ix2 r l))) (W (ix2 r l))
      + D (ix2 r l) * L (ix2 r l) := by
  pointwise
  rw [lit_two]

theorem chosen_form (C Y X : FVec Ideal S262144x64 .f32) (r : Fin 262144) (l : Fin 64) :
    select (cmpf .ogt C (broadcastInDim S262144x64 ![] bcast_S_S262144x64 (constant S_ .f32 0x00000000#32))) Y X (ix2 r l)
    = if (0 : EReal) < C (ix2 r l) then Y (ix2 r l) else X (ix2 r l) := by
  pointwise

theorem scaled_form (C : FVec Ideal S262144x64 .f32) (r : Fin 262144) (l : Fin 64) :
    subf (mulf (mulf C (broadcastInDim S262144x64 ![] bcast_S_S262144x64 (constant S_ .f32 0x40000000#32)))
      (broadcastInDim S262144x64 ![] bcast_S_S262144x64 (constant S_ .f32 0x41200000#32)))
      (broadcastInDim S262144x64 ![] bcast_S_S262144x64 (constant S_ .f32 0x41200000#32)) (ix2 r l)
    = C (ix2 r l) * ((20 : ℝ) : EReal) - ((10 : ℝ) : EReal) := by
  pointwise
  rw [lit_two, lit_ten, mul_assoc, ← EReal.coe_mul]
  norm_num

theorem upper_form (Y : FVec Ideal S262144x64 .f32) (r : Fin 262144) (l : Fin 64) :
    select (cmpf .ogt Y (broadcastInDim S262144x64 ![] bcast_S_S262144x64 (constant S_ .f32 0x41200000#32))) (addf (mulf (broadcastInDim S262144x64 ![] bcast_S_S262144x64 (constant S_ .f32 0x358637BD#32)) (subf Y (broadcastInDim S262144x64 ![] bcast_S_S262144x64 (constant S_ .f32 0x41200000#32)))) (broadcastInDim S262144x64 ![] bcast_S_S262144x64 (constant S_ .f32 0x41200000#32))) Y (ix2 r l)
    = if ((10 : ℝ) : EReal) < Y (ix2 r l) then ((beta : ℝ) : EReal) * (Y (ix2 r l) - ((10 : ℝ) : EReal)) + ((10 : ℝ) : EReal) else Y (ix2 r l) := by
  pointwise
  rw [lit_ten, lit_beta]

theorem lower_form (Y : FVec Ideal S262144x64 .f32) (r : Fin 262144) (l : Fin 64) :
    select (cmpf .olt Y (broadcastInDim S262144x64 ![] bcast_S_S262144x64 (constant S_ .f32 0xC1200000#32))) (subf (mulf (broadcastInDim S262144x64 ![] bcast_S_S262144x64 (constant S_ .f32 0x358637BD#32)) (addf Y (broadcastInDim S262144x64 ![] bcast_S_S262144x64 (constant S_ .f32 0x41200000#32)))) (broadcastInDim S262144x64 ![] bcast_S_S262144x64 (constant S_ .f32 0x41200000#32))) Y (ix2 r l)
    = if Y (ix2 r l) < ((-10 : ℝ) : EReal) then ((beta : ℝ) : EReal) * (Y (ix2 r l) + ((10 : ℝ) : EReal)) - ((10 : ℝ) : EReal) else Y (ix2 r l) := by
  pointwise
  rw [lit_ten, lit_neg_ten, lit_beta]

/-! ### The reference's own arrays -/

theorem curve_at (r : Fin 262144) (l : Fin 64) (x : ℝ) (hu : inp V0 r l = (x : EReal)) (n : ℕ) (hn : n < 32)
    (h : res_main_v112 V0 (ix2 r l) = BitVec.ofNat 32 n) :
    curve V0 (ix2 r l) = ((quad (dens (col V0 l)) n ((x + 10) / 20) : ℝ) : EReal) := by
  refine (curve_form (areas V0) (res_main_v124 V0) (res_main_v113 V0) (rights V0) (widths V0) r l).trans ?_
  rw [areas_at V0 r l n hn h, rights_at V0 r l n hn h, widths_at V0 r l n hn h, left_at V0 r l n hn h,
    mesh_at V0 r l n hn h, hu, unit_real]
  rw [← EReal.coe_sub, ← EReal.coe_sub, ← EReal.coe_mul, div_real _ (by norm_num), ← EReal.coe_mul,
    div_real _ (width_pos n).ne', ← EReal.coe_mul, ← EReal.coe_add, ← EReal.coe_add]
  refine congrArg (fun y : ℝ => (y : EReal)) ?_
  unfold quad
  ring

theorem chosen_at (r : Fin 262144) (l : Fin 64) :
    chosen V0 (ix2 r l) = if (0 : EReal) < covers V0 (ix2 r l) then curve V0 (ix2 r l) else res_main_v93 V0 (ix2 r l) :=
  chosen_form (covers V0) (curve V0) (res_main_v93 V0) r l

/-- The map on the unit interval. -/
theorem onUnit_at (r : Fin 262144) (l : Fin 64) : chosen V0 (ix2 r l) = onUnit (col V0 l) (inp V0 r l) := by
  rw [chosen_at, covers_at]
  have hout : ∀ w : BitVec 32, res_main_v103 V0 (ix2 r l) = w →
      IntOp.cmpi .sle (IntOp.muli w (IntOp.addi (IntOp.subi w 32#32) 1#32)) 0#32 = 0#1 →
      (if (0 : EReal) < Scalar.select (IntOp.cmpi .sle (IntOp.muli (res_main_v103 V0 (ix2 r l))
        (IntOp.addi (IntOp.subi (res_main_v103 V0 (ix2 r l)) 32#32) 1#32)) 0#32) 1 0 then curve V0 (ix2 r l) else res_main_v93 V0 (ix2 r l))
        = unit (inp V0 r l) := by
    intro w hw hc
    rw [hw, hc, if_neg (by simp [Scalar.select]), unit_at]
  rcases lt_or_ge (inp V0 r l) ((-10 : ℝ) : EReal) with hl | hl
  · rw [onUnit_outside _ (Or.inl hl.le)]
    exact hout _ (count_below V0 r l hl) (by decide)
  rcases le_or_gt ((10 : ℝ) : EReal) (inp V0 r l) with hh | hh
  · rw [onUnit_outside _ (Or.inr hh)]
    exact hout _ (count_above V0 r l hh) (by decide)
  obtain ⟨x, hx⟩ : ∃ x : ℝ, inp V0 r l = (x : EReal) := by
    generalize inp V0 r l = u at hl hh
    induction u with
    | bot => simp at hl
    | top => simp at hh
    | coe x => exact ⟨x, rfl⟩
  rw [hx] at hl hh
  obtain ⟨k, hk, h1, h2⟩ := knots_below (by exact_mod_cast hl) (by exact_mod_cast hh : x < 10)
  have hw := count_inside V0 r l x hx k hk h1 h2
  rw [hw, covers_inside ⟨k, hk⟩, if_pos (by simp [Scalar.select]), hx, onUnit_inside _ hk h1 h2]
  exact curve_at V0 r l x hx k hk (by rw [clamp_at, hw, clamp_inside ⟨k, hk⟩])

theorem scaled_at (r : Fin 262144) (l : Fin 64) : res_main_v151 V0 (ix2 r l)
    = onUnit (col V0 l) (inp V0 r l) * ((20 : ℝ) : EReal) - ((10 : ℝ) : EReal) :=
  (congrFun (scaled V0) (ix2 r l)).trans ((scaled_form (chosen V0) r l).trans (by rw [onUnit_at]))

/-- The result array's term. -/
def result : FVec Ideal S262144x64 .f32 :=
  select (cmpf .olt (res_main_v160 V0) (broadcastInDim S262144x64 ![] bcast_S_S262144x64 (constant S_ .f32 0xC1200000#32))) (subf (mulf (broadcastInDim S262144x64 ![] bcast_S_S262144x64 (constant S_ .f32 0x358637BD#32)) (addf (res_main_v160 V0) (broadcastInDim S262144x64 ![] bcast_S_S262144x64 (constant S_ .f32 0x41200000#32)))) (broadcastInDim S262144x64 ![] bcast_S_S262144x64 (constant S_ .f32 0x41200000#32))) (res_main_v160 V0)

/-- The result is the stated map. -/
theorem result_at (r : Fin 262144) (l : Fin 64) : result V0 (ix2 r l) = back (onUnit (col V0 l) (inp V0 r l)) := by
  have hup := upper_form (res_main_v151 V0) r l
  rw [scaled_at] at hup
  refine (lower_form (res_main_v160 V0) r l).trans ?_
  have h160 : res_main_v160 V0 (ix2 r l) = _ := hup
  rw [h160]
  rfl

end Cert.ReferenceIdeal.RValue

end
-- ==== Proof.Agree.lean ====
/- The two programs' results are one array, when their arguments are. -/
module

public import proofs.«01_k».proof.Proof.KernelRun
public import proofs.«01_k».proof.Proof.KernelValue
public import proofs.«01_k».proof.Proof.RefResult

@[expose] public section

set_option maxRecDepth 16384

noncomputable section

namespace Cert.QMap

open Idealize.ShloMosaic Idealize.ShloMosaic.TcCoe Idealize.ShloMosaic.Pointwise

variable (m : (ℓ : Loc Cert.KernelIdeal.nD Cert.KernelIdeal.τ Cert.KernelIdeal.sig) → Buf (Elt Ideal) ℓ) (ρ : Dev Cert.KernelIdeal.nD → PrngReg)
  (m' : (ℓ : Loc Cert.ReferenceIdeal.nD Cert.ReferenceIdeal.τ Cert.ReferenceIdeal.sig) → Buf (Elt Ideal) ℓ)

/-- Both results are the map of the same input by the same density, element by element. -/
theorem agree (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) :
    Cert.ReferenceIdeal.RValue.result (StableHlo.launchContents m' c) = Cert.KernelIdeal.Gen.W7 m ρ c (Proc.devRef .tc Cert.KernelIdeal.main_v63) := by
  funext i
  obtain ⟨r, d, rfl⟩ : ∃ (r : Fin 262144) (d : Fin 64), i = ix2 r d := ⟨i 0, i 1, eq_ix2 i⟩
  refine (Cert.ReferenceIdeal.RValue.result_at _ r d).trans (Eq.trans ?_ (Cert.KernelIdeal.KValue.value_at m ρ c r d).symm)
  refine congrArg back (congrArg₂ onUnit ?_ (congrFun h0 (ix2 r d)))
  exact funext fun k => congrFun h1 (ix2 k d)

end Cert.QMap

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Agree
public import Idealize.ShloMosaic.Adequacy
public import Idealize.ShloMosaic.Init
public import Idealize.ShloMosaic.Lib.Quiescent

@[expose] public section

noncomputable section

namespace Cert.Proof

open Idealize.ShloMosaic Idealize.SL.Sem Cert.Kernel

/-- The reference has no kernels: it runs to its end, leaves its arguments alone, and touches no semaphore. -/
theorem reference_frame [Cert.ReferenceIdeal.Facts] : Cert.quiescent_ReferenceIdeal := fun m ρ _ =>
  (θ_run Cert.ReferenceIdeal.defs _ _).mono
    (fun r h => ⟨fun c => ⟨(h c).2.1, (h c).2.2⟩, sem_eq_zero_of_no_sems (by decide) r.2⟩)
    (Cert.ReferenceIdeal.Value.run (F := Ideal) m ρ)

/-- Each named constant is the value that its name stands for. -/
theorem preserves : Cert.preserves_Kernel_KernelIdeal :=
  ⟨IdealRules.named_const.statement Cert.KernelIdeal.κ "inv_2b" .f32 0x3D4CCCCD#32 _ rfl,
   IdealRules.named_const.statement Cert.KernelIdeal.κ "ga" .f32 0x3FDFDA13#32 _ rfl,
   IdealRules.named_const.statement Cert.KernelIdeal.κ "inv_ln_r" .f32 0x40AF839B#32 _ rfl⟩

/-- The kernel and the reference end with one result, which is the kernel's own. -/
theorem algebraic [Cert.KernelIdeal.Facts] [Cert.ReferenceIdeal.Facts] : Cert.algebraic_KernelIdeal_ReferenceIdeal :=
  fun m ρ m' ρ' _ same => ⟨fun c => Cert.KernelIdeal.Gen.W7 m ρ c (Proc.devRef .tc Cert.KernelIdeal.main_v63),
    Cert.KernelIdeal.KValue.run m ρ,
    (θ_run Cert.ReferenceIdeal.defs _ _).mono
      (fun r h c => ⟨(h c).1.trans (Cert.QMap.agree m ρ m' c (same c).1 (same c).2), (h c).2⟩)
      (Cert.ReferenceIdeal.Value.run (F := Ideal) m' ρ')⟩

/-- All the claims. -/
theorem claim : Cert.Claim := by
  refine ⟨Cert.Kernel.Gen.facts, Cert.KernelIdeal.Gen.facts, Cert.ReferenceIdeal.Gen.facts, ?_, ?_, ?_, preserves, ?_⟩
  · exact fun m ρ _ => Cert.Kernel.Gen.frame m ρ
  · exact fun m ρ _ => Cert.KernelIdeal.Gen.frame m ρ
  · exact reference_frame
  · exact algebraic

end Cert.Proof

end
